-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S16x256x4096 : Shape := ⟨3, ![16, 256, 4096]⟩
abbrev S32 : Shape := ⟨1, ![32]⟩
abbrev S_ : Shape := ⟨0, ![]⟩
abbrev S256x2048 : Shape := ⟨2, ![256, 2048]⟩
abbrev S1x256x2048 : Shape := ⟨3, ![1, 256, 2048]⟩
abbrev S1 : Shape := ⟨1, ![1]⟩
abbrev S1x256x4096 : Shape := ⟨3, ![1, 256, 4096]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .bf16⟩
  | .hbm, ⟨1, _⟩ => ⟨S4096x128, .bf16⟩
  | .hbm, ⟨2, _⟩ => ⟨S4096x128, .f32⟩
  | .local _ .vmem, ⟨0, _⟩ => ⟨S256x4096, .bf16⟩
  | .local _ .vmem, ⟨1, _⟩ => ⟨S4096x128, .bf16⟩
  | .local _ .vmem, ⟨2, _⟩ => ⟨S4096x128, .f32⟩
  | .local _ .vmem, ⟨3, _⟩ => ⟨S16x256x4096, .bf16⟩
  | .local _ .vmem, ⟨4, _⟩ => ⟨S4096x128, .bf16⟩
  | _, _ => ⟨S256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_16 : BitVec 32 := 1#32
  let v18 : BitVec 32 := Scalar.muli v7 c1_i32_16
  let v19 : BitVec 32 := Scalar.addi c0_i32_17 v18
  v19.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_25 : BitVec 32 := 1#32
  let v28 : BitVec 32 := Scalar.muli v5 c1_i32_25
  let v29 : BitVec 32 := Scalar.addi c0_i32_26 v28
  v29.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_39 : BitVec 32 := 1#32
  let v43 : BitVec 32 := Scalar.muli v7 c1_i32_39
  let v44 : BitVec 32 := Scalar.addi c0_i32_40 v43
  v44.toNat
def k0_dev6 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_47 : BitVec 32 := 1#32
  let v53 : BitVec 32 := Scalar.muli v5 c1_i32_47
  let v54 : BitVec 32 := Scalar.addi c0_i32_48 v53
  v54.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v72 : BitVec 32 := Scalar.muli v2 c256_i32
  let v73 : Index := Scalar.indexCast v72
  let c0_62 : Index := 0#32
  ![v73.toNat, 0]
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_77 : BitVec 32 := 1#32
  let v83 : BitVec 32 := Scalar.muli v7 c1_i32_77
  let v84 : BitVec 32 := Scalar.addi c0_i32_78 v83
  v84.toNat
def k0_dev8 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_95 : BitVec 32 := 1#32
  let v101 : BitVec 32 := Scalar.muli v5 c1_i32_95
  let v102 : BitVec 32 := Scalar.addi c0_i32_96 v101
  v102.toNat
def k0_dev9 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_114 : BitVec 32 := 1#32
  let v119 : BitVec 32 := Scalar.muli v7 c1_i32_114
  let v120 : BitVec 32 := Scalar.addi c0_i32_115 v119
  v120.toNat
def k0_dev10 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_133 : BitVec 32 := 1#32
  let v137 : BitVec 32 := Scalar.muli v5 c1_i32_133
  let v138 : BitVec 32 := Scalar.addi c0_i32_134 v137
  v138.toNat
def k0_off2 (d0 : Dev nD) (c0_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v147 : BitVec 32 := Scalar.subi v2 c0_i32_139
  let c1_i32_140 : BitVec 32 := 1#32
  let v148 : BitVec 32 := Scalar.subi v147 c1_i32_140
  let c16_i32_141 : BitVec 32 := 16#32
  let v149 : BitVec 32 := Scalar.addi v148 c16_i32_141
  let c16_i32_142 : BitVec 32 := 16#32
  let v150 : BitVec 32 := Scalar.remsi v149 c16_i32_142
  let c256_i32_149 : BitVec 32 := 256#32
  let v155 : BitVec 32 := Scalar.muli v150 c256_i32_149
  let v156 : Index := Scalar.indexCast v155
  let c0_150 : Index := 0#32
  ![v156.toNat, 0]
def k0_off3 (d0 : Dev nD) (c0_i32_151 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v158 : BitVec 32 := Scalar.addi v2 c0_i32_151
  let c1_i32_152 : BitVec 32 := 1#32
  let v159 : BitVec 32 := Scalar.addi v158 c1_i32_152
  let c16_i32_153 : BitVec 32 := 16#32
  let v160 : BitVec 32 := Scalar.remsi v159 c16_i32_153
  let c256_i32_159 : BitVec 32 := 256#32
  let v165 : BitVec 32 := Scalar.muli v160 c256_i32_159
  let v166 : Index := Scalar.indexCast v165
  let c0_160 : Index := 0#32
  ![v166.toNat, 0]
def k0_dev11 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_174 : BitVec 32 := 1#32
  let v176 : BitVec 32 := Scalar.muli v7 c1_i32_174
  let v177 : BitVec 32 := Scalar.addi c0_i32_175 v176
  v177.toNat
def k0_dev12 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_192 : BitVec 32 := 1#32
  let v194 : BitVec 32 := Scalar.muli v5 c1_i32_192
  let v195 : BitVec 32 := Scalar.addi c0_i32_193 v194
  v195.toNat
def k0_dev13 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_211 : BitVec 32 := 1#32
  let v212 : BitVec 32 := Scalar.muli v7 c1_i32_211
  let v213 : BitVec 32 := Scalar.addi c0_i32_212 v212
  v213.toNat
def k0_dev14 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_230 : BitVec 32 := 1#32
  let v230 : BitVec 32 := Scalar.muli v5 c1_i32_230
  let v231 : BitVec 32 := Scalar.addi c0_i32_231 v230
  v231.toNat
def k0_dev15 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_270 : BitVec 32 := 1#32
  let v269 : BitVec 32 := Scalar.muli v7 c1_i32_270
  let v270 : BitVec 32 := Scalar.addi c0_i32_271 v269
  v270.toNat
def k0_dev16 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_288 : BitVec 32 := 1#32
  let v287 : BitVec 32 := Scalar.muli v5 c1_i32_288
  let v288 : BitVec 32 := Scalar.addi c0_i32_289 v287
  v288.toNat
def k0_dev17 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_307 : BitVec 32 := 1#32
  let v305 : BitVec 32 := Scalar.muli v7 c1_i32_307
  let v306 : BitVec 32 := Scalar.addi c0_i32_308 v305
  v306.toNat
def k0_dev18 (d0 : Dev nD) : Nat :=
  let c0_i32_327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_326 : BitVec 32 := 1#32
  let v323 : BitVec 32 := Scalar.muli v5 c1_i32_326
  let v324 : BitVec 32 := Scalar.addi c0_i32_327 v323
  v324.toNat
def k0_dev19 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_367 : BitVec 32 := 1#32
  let v362 : BitVec 32 := Scalar.muli v7 c1_i32_367
  let v363 : BitVec 32 := Scalar.addi c0_i32_368 v362
  v363.toNat
def k0_dev20 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_385 : BitVec 32 := 1#32
  let v380 : BitVec 32 := Scalar.muli v5 c1_i32_385
  let v381 : BitVec 32 := Scalar.addi c0_i32_386 v380
  v381.toNat
def k0_dev21 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_405 : BitVec 32 := 1#32
  let v398 : BitVec 32 := Scalar.muli v7 c1_i32_405
  let v399 : BitVec 32 := Scalar.addi c0_i32_406 v398
  v399.toNat
def k0_dev22 (d0 : Dev nD) : Nat :=
  let c0_i32_425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_424 : BitVec 32 := 1#32
  let v416 : BitVec 32 := Scalar.muli v5 c1_i32_424
  let v417 : BitVec 32 := Scalar.addi c0_i32_425 v416
  v417.toNat
def k0_dev23 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_465 : BitVec 32 := 1#32
  let v455 : BitVec 32 := Scalar.muli v7 c1_i32_465
  let v456 : BitVec 32 := Scalar.addi c0_i32_466 v455
  v456.toNat
def k0_dev24 (d0 : Dev nD) : Nat :=
  let c0_i32_484 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_483 : BitVec 32 := 1#32
  let v473 : BitVec 32 := Scalar.muli v5 c1_i32_483
  let v474 : BitVec 32 := Scalar.addi c0_i32_484 v473
  v474.toNat
def k0_dev25 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_503 : BitVec 32 := 1#32
  let v491 : BitVec 32 := Scalar.muli v7 c1_i32_503
  let v492 : BitVec 32 := Scalar.addi c0_i32_504 v491
  v492.toNat
def k0_dev26 (d0 : Dev nD) : Nat :=
  let c0_i32_523 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_522 : BitVec 32 := 1#32
  let v509 : BitVec 32 := Scalar.muli v5 c1_i32_522
  let v510 : BitVec 32 := Scalar.addi c0_i32_523 v509
  v510.toNat
def k0_dev27 (d0 : Dev nD) : Nat :=
  let c0_i32_564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_563 : BitVec 32 := 1#32
  let v548 : BitVec 32 := Scalar.muli v7 c1_i32_563
  let v549 : BitVec 32 := Scalar.addi c0_i32_564 v548
  v549.toNat
def k0_dev28 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_581 : BitVec 32 := 1#32
  let v566 : BitVec 32 := Scalar.muli v5 c1_i32_581
  let v567 : BitVec 32 := Scalar.addi c0_i32_582 v566
  v567.toNat
def k0_dev29 (d0 : Dev nD) : Nat :=
  let c0_i32_602 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_601 : BitVec 32 := 1#32
  let v584 : BitVec 32 := Scalar.muli v7 c1_i32_601
  let v585 : BitVec 32 := Scalar.addi c0_i32_602 v584
  v585.toNat
def k0_dev30 (d0 : Dev nD) : Nat :=
  let c0_i32_621 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_620 : BitVec 32 := 1#32
  let v602 : BitVec 32 := Scalar.muli v5 c1_i32_620
  let v603 : BitVec 32 := Scalar.addi c0_i32_621 v602
  v603.toNat
def k0_dev31 (d0 : Dev nD) : Nat :=
  let c0_i32_662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_661 : BitVec 32 := 1#32
  let v641 : BitVec 32 := Scalar.muli v7 c1_i32_661
  let v642 : BitVec 32 := Scalar.addi c0_i32_662 v641
  v642.toNat
def k0_dev32 (d0 : Dev nD) : Nat :=
  let c0_i32_701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_700 : BitVec 32 := 1#32
  let v675 : BitVec 32 := Scalar.muli v5 c1_i32_700
  let v676 : BitVec 32 := Scalar.addi c0_i32_701 v675
  v676.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_747 : BitVec 32 := 8#32
  let v722 : BitVec 32 := Scalar.addi v2 c8_i32_747
  let c16_i32_748 : BitVec 32 := 16#32
  let v723 : BitVec 32 := Scalar.remsi v722 c16_i32_748
  let c256_i32_754 : BitVec 32 := 256#32
  let v728 : BitVec 32 := Scalar.muli v723 c256_i32_754
  let v729 : Index := Scalar.indexCast v728
  let c0_755 : Index := 0#32
  ![v729.toNat, 0]
abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S4096x2048, .bf16⟩
  | .hbm, ⟨4, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Same.lean ====
/-
# The kernel at bit patterns and its ideal reading

The two programs have the same text, so at the same float values they are the same program. Only the table of bodies needs
a word: it is written by cases on the label, and there is one label.
-/
module

public import proofs.«01_k».proof.Defs
public import proofs.«01_k».proof.Proof.Gen.Kernel
public import proofs.«01_k».proof.Proof.Gen.KernelIdeal

@[expose] public section
noncomputable section
namespace Cert.RingProof
open Idealize.ShloMosaic Idealize.SL.Sem

set_option maxRecDepth 100000 in
/-- The kernels' bodies are the same. -/
theorem same_bodies : Cert.Kernel.defs₀ (F := Bits) = Cert.KernelIdeal.defs₀ (F := Bits) := by
  unfold Cert.Kernel.defs₀ Cert.KernelIdeal.defs₀
  refine congrArg Defs.onTc ?_
  funext l a
  obtain ⟨l, hl⟩ := l
  obtain rfl : l = 0 := by omega
  rfl
/-- So are the tables of all the bodies. -/
theorem same_defs : Cert.Kernel.defs (F := Bits) = Cert.KernelIdeal.defs (F := Bits) :=
  congrArg (Pipeline.defs Cert.KernelIdeal.pcfgs) same_bodies
end Cert.RingProof
end
-- ==== Proof.Ring.lean ====
/-
# The ring, the thirty transfers, and where their pieces lie

Sixteen devices stand in a ring. Each keeps a buffer of sixteen slots, a slot being one device's block of `x`;
a slot is moved in two halves (columns 0–2047 and 2048–4095), so the buffer is thirty-two PIECES: piece `q` is half
`q % 2` of slot `q / 2`. Every device starts the same thirty transfers in the same order; transfer `n` goes to the
right neighbour for even `n`, to the left one for odd `n`. This module fixes the arithmetic: the semaphore a transfer
uses, the piece it reads, the piece it fills on the neighbour, and which device's block each slot holds in the end.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit
public import Idealize.ShloMosaic.Lib.ViewIndex
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

/-- The right neighbour. -/
def rt (c : Dev nD) : Dev nD := ⟨(c.val + 1) % 16, Nat.mod_lt _ (by decide)⟩
/-- The left neighbour. -/
def lt (c : Dev nD) : Dev nD := ⟨(c.val + 15) % 16, Nat.mod_lt _ (by decide)⟩

theorem lt_rt (c : Dev nD) : lt (rt c) = c := by revert c; decide
theorem rt_lt (c : Dev nD) : rt (lt c) = c := by revert c; decide

/-- One step to the right, as a permutation of the devices. -/
def turn : Dev nD ≃ Dev nD := ⟨rt, lt, lt_rt, rt_lt⟩

/-! ## The transfers -/

/-- The number of a transfer, in the order in which every device starts them. -/
abbrev Tx : Type := Fin 30

/-- The device transfer `n` of device `c` addresses. -/
def nb (n : Tx) (c : Dev nD) : Dev nD := if n.val % 2 = 0 then rt c else lt c
/-- The device whose transfer `n` addresses device `c`. -/
def bn (n : Tx) (c : Dev nD) : Dev nD := if n.val % 2 = 0 then lt c else rt c

theorem bn_nb (n : Tx) (c : Dev nD) : bn n (nb n c) = c := by
  unfold bn nb; split <;> [exact lt_rt c; exact rt_lt c]
theorem nb_bn (n : Tx) (c : Dev nD) : nb n (bn n c) = c := by
  unfold bn nb; split <;> [exact rt_lt c; exact lt_rt c]

/-- Addressing by transfer `n`, as a permutation of the devices. -/
def turnBy (n : Tx) : Dev nD ≃ Dev nD := ⟨nb n, bn n, bn_nb n, nb_bn n⟩

/-- The place of transfer `n`'s two semaphores in their arrays of thirty-two. -/
def sm (n : Tx) : Fin 32 := ⟨16 * (n.val % 2) + n.val / 2, by omega⟩
/-- The transfer using place `s`: the inverse of `sm` where some transfer uses it. -/
def un (s : ℕ) : Tx := ⟨(2 * (s % 16) + s / 16) % 30, Nat.mod_lt _ (by decide)⟩

theorem un_sm (n : Tx) : un (sm n).val = n := by revert n; decide
theorem sm_injective : Function.Injective sm := fun a b h => by rw [← un_sm a, ← un_sm b, h]

/-- The piece transfer `n` fills on the device it addresses. -/
def dp (n : Tx) : Fin 32 := ⟨if n.val < 28 then 16 * (n.val % 2) + n.val / 2 else 14 + n.val % 2, by split <;> omega⟩
/-- The piece transfer `n` reads on the device that starts it. -/
def sp (n : Tx) : Fin 32 :=
  ⟨if n.val < 4 then 30 + n.val / 2 else if n.val < 28 then 16 * (n.val % 2) + n.val / 2 - 2 else if n.val = 28 then 12 else 29,
    by split <;> [omega; split <;> [omega; split <;> omega]]⟩

theorem dp_injective : Function.Injective dp := by intro a b; revert a b; decide

/-- A transfer keeps to its half of the slot. -/
theorem half_eq (n : Tx) : (sp n).val % 2 = (dp n).val % 2 := by revert n; decide

/-- The device whose block slot `k` of device `c` holds in the end. -/
def org (c : Dev nD) (k : ℕ) : Dev nD :=
  ⟨(c.val + if 8 ≤ k ∧ k < 15 then k - 7 else 31 - k) % 16, Nat.mod_lt _ (by decide)⟩

/-- What a transfer moves is what its destination is to hold. -/
theorem org_move (n : Tx) (c : Dev nD) : org (nb n c) ((dp n).val / 2) = org c ((sp n).val / 2) := by
  revert n c; decide +kernel
/-- Slot 15 holds the device's own block. -/
theorem org_own (c : Dev nD) : org c 15 = c := by revert c; decide

/-- Every device's block is in some slot. -/
theorem org_covers (c d : Dev nD) : ∃ k : Fin 16, org c k.val = d := by revert c d; decide +kernel

/-! ## The pieces -/

abbrev xM : Memref sig .tc .vmem S256x4096 .bf16 := Memref.whole cc0_stg0_0
abbrev wM : Memref sig .tc .vmem S4096x128 .bf16 := Memref.whole cc0_stg1_0
abbrev oM : Memref sig .tc .vmem S4096x128 .f32 := Memref.whole cc0_stg2_0
abbrev gM : Memref sig .tc .vmem S16x256x4096 .bf16 := Memref.whole cc0_scratch0
abbrev vM : Memref sig .tc .vmem S4096x128 .bf16 := Memref.whole cc0_scratch1

theorem pieceInb (q : Fin 32) : ∀ a, (![q.val / 2, 0, 2048 * (q.val % 2)] : Fin 3 → ℕ) a + S1x256x2048.size a ≤ S16x256x4096.size a := by
  intro a
  fin_cases a
  · show q.val / 2 + 1 ≤ 16; omega
  · show 0 + 256 ≤ 256; omega
  · show 2048 * (q.val % 2) + 2048 ≤ 4096; omega

/-- Piece `q` as a rectangle of the buffer. -/
abbrev pieceR (q : Fin 32) : Rect S16x256x4096 := Rect.unit (s := S16x256x4096) ![q.val / 2, 0, 2048 * (q.val % 2)] S1x256x2048.size (pieceInb q)
/-- Piece `q` as the transfers name it. -/
abbrev pieceM (q : Fin 32) : Memref sig .tc .vmem S256x2048 .bf16 :=
  (gM.slice (pieceR q) (fun _ => rfl)).squeeze S256x2048 squeezes_S1x256x2048_S256x2048

theorem mem_pieceR (q : Fin 32) (i : S16x256x4096.Idx) : i ∈ (pieceR q).set ↔ (i 0).val = q.val / 2 ∧ (i 2).val / 2048 = q.val % 2 := by
  rw [Rect.mem_set_unit]
  have h1 : (i 1).val < 256 := (i 1).isLt
  have h2 : (i 2).val < 4096 := (i 2).isLt
  constructor
  · intro h
    have h0 := h 0; have h2' := h 2
    dsimp at h0 h2'
    exact ⟨by omega, by omega⟩
  · rintro ⟨h0, h2'⟩ a
    fin_cases a
    · show q.val / 2 ≤ (i 0).val ∧ (i 0).val < q.val / 2 + 1; omega
    · show 0 ≤ (i 1).val ∧ (i 1).val < 0 + 256; omega
    · show 2048 * (q.val % 2) ≤ (i 2).val ∧ (i 2).val < 2048 * (q.val % 2) + 2048; omega

theorem pieceM_set (q : Fin 32) : (pieceM q).view.set = (pieceR q).set :=
  (View.set_reshape _ _).trans (View.set_slice_whole _ _)

theorem pieces_disjoint (q q' : Fin 32) (h : q ≠ q') : Disjoint (pieceR q).set (pieceR q').set := by
  rw [Finset.disjoint_left]
  intro i hi hi'
  rw [mem_pieceR] at hi hi'
  exact h (Fin.ext (by omega))

theorem pieces_cover : Finset.univ.biUnion (fun q : Fin 32 => (pieceR q).set) = Finset.univ := by
  ext i
  simp only [Finset.mem_biUnion, Finset.mem_univ, true_and, iff_true]
  have h0 : (i 0).val < 16 := (i 0).isLt
  have h2 : (i 2).val < 4096 := (i 2).isLt
  exact ⟨⟨2 * (i 0).val + (i 2).val / 2048, by omega⟩, (mem_pieceR _ _).mpr ⟨by dsimp only; omega, by dsimp only; omega⟩⟩

/-- The bytes-credit of one piece. -/
abbrev N : ℕ := (pieceM 0).view.dmaCredit
theorem N_pos : 0 < N := View.dmaCredit_pos _ (by decide)

/-! ## Contents -/

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-- Device `c`'s block of `x`, as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))
/-- Device `c`'s block of `w_mat`, as its kernel finds it staged. -/
def wstg (c : Dev nD) : (cc0_stg1_0 : Ref sig .tc).ty.Contents (Elt F) :=
  (win0_1.blk (0 : Fin 1)).view.read (Elt F) ((s₀ m ρ).mem ((c : Thread nD τ).loc main_arg1))

/-- The index `(r, k)` of a block of `x`. -/
def ixX (r : Fin 256) (k : Fin 4096) : S256x4096.Idx := fun a => match a with | ⟨0, _⟩ => r | ⟨1, _⟩ => k

/-- What device `c`'s buffer holds once everything has landed: in slot `k` the block of `org c k`. -/
def gath (c : Dev nD) : Buf (Elt F) ((c : Thread nD τ).loc cc0_scratch0) :=
  fun i : S16x256x4096.Idx => xstg m ρ (org c (i 0).val) (ixX (i 1) (i 2))

theorem gath_apply (c : Dev nD) (i : S16x256x4096.Idx) : gath m ρ c i = xstg m ρ (org c (i 0).val) (ixX (i 1) (i 2)) := rfl

/-- Transfer `n` writes onto the neighbour's piece what the neighbour's piece is to hold. -/
theorem move_eq (n : Tx) (c : Dev nD) (fd : Buf (Elt F) ((nb n c : Thread nD τ).loc cc0_scratch0)) :
    ∀ i ∈ (pieceR (dp n)).set,
      (pieceM (dp n)).view.write (Elt F) fd ((pieceM (sp n)).view.read (Elt F) (gath m ρ c)) Finset.univ i = gath m ρ (nb n c) i := by
  intro i hi
  rw [← pieceM_set] at hi
  obtain ⟨y, rfl⟩ := View.exists_emb_of_mem_set _ hi
  rw [View.write_emb_of_mem _ _ (Finset.mem_univ _)]
  show gath m ρ c ((pieceM (sp n)).view.emb y) = gath m ρ (nb n c) ((pieceM (dp n)).view.emb y)
  rw [gath_apply, gath_apply]
  set z : S1x256x2048.Idx := Shape.reshapeEquiv (squeezes_S1x256x2048_S256x2048).numel_eq y with hz
  have e1 : (pieceM (sp n)).view.emb y = (pieceR (sp n)).emb z := rfl
  have e2 : (pieceM (dp n)).view.emb y = (pieceR (dp n)).emb z := rfl
  rw [e1, e2]
  have z0 : (z 0).val = 0 := by have : (z 0).val < 1 := (z 0).isLt; omega
  have a0 : ((pieceR (sp n)).emb z 0).val = (sp n).val / 2 := by
    rw [ValueKit.rect_emb_unit_val, z0]; rfl
  have b0 : ((pieceR (dp n)).emb z 0).val = (dp n).val / 2 := by
    rw [ValueKit.rect_emb_unit_val, z0]; rfl
  have h1 : (pieceR (sp n)).emb z 1 = (pieceR (dp n)).emb z 1 := Fin.ext (by
    rw [ValueKit.rect_emb_unit_val, ValueKit.rect_emb_unit_val]; rfl)
  have h2 : (pieceR (sp n)).emb z 2 = (pieceR (dp n)).emb z 2 := Fin.ext (by
    rw [ValueKit.rect_emb_unit_val, ValueKit.rect_emb_unit_val]
    exact congrArg (fun t => 2048 * t + (z 2).val) (half_eq n))
  rw [a0, b0, h1, h2, org_move]

end Cert.RingProof

end
-- ==== Proof.Block.lean ====
/-
# What the loads read and what the stores leave

The device's own block goes into slot 15 in two halves; a slot is read back whole as the block of the device it came
from; the product of that block with the device's columns of `w_mat` is stored on the rows of that device. This module
says so of the buffers' contents, for any float values.
-/
module

public import proofs.«01_k».proof.Proof.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable (m : (ℓ : Loc nD τ sig) → Buf (Elt F) ℓ) (ρ : Dev nD → PrngReg)

/-! ## Slots -/

theorem slotInb (k : Fin 16) : ∀ a, (![k.val, 0, 0] : Fin 3 → ℕ) a + S1x256x4096.size a ≤ S16x256x4096.size a := by
  intro a
  fin_cases a
  · show k.val + 1 ≤ 16; omega
  · show 0 + 256 ≤ 256; omega
  · show 0 + 4096 ≤ 4096; omega

/-- Slot `k` as a rectangle of the buffer. -/
abbrev slotR (k : Fin 16) : Rect S16x256x4096 := Rect.unit (s := S16x256x4096) ![k.val, 0, 0] S1x256x4096.size (slotInb k)

/-- The two pieces of a slot. -/
def lo (k : Fin 16) : Fin 32 := ⟨2 * k.val, by omega⟩
def hi (k : Fin 16) : Fin 32 := ⟨2 * k.val + 1, by omega⟩

theorem lo_ne_hi (k : Fin 16) : lo k ≠ hi k := fun h => by have := congrArg Fin.val h; simp only [lo, hi] at this; omega

theorem slot_set (k : Fin 16) : (gM.access (slotR k)).set ⊆ (pieceR (lo k)).set ∪ (pieceR (hi k)).set := by
  rw [show (gM.access (slotR k)).set = (slotR k).set from View.set_slice_whole _ _]
  intro i hi'
  rw [Rect.mem_set_unit] at hi'
  have h0 := hi' 0
  have h2 : (i 2).val < 4096 := (i 2).isLt
  dsimp at h0
  rw [Finset.mem_union, mem_pieceR, mem_pieceR]
  simp only [lo, hi]
  omega

/-- Slot `k` of device `c` as it is read. -/
def slotV (c : Dev nD) (k : Fin 16) : Vec F S1x256x4096 .bf16 := (gM.access (slotR k)).read (Elt F) (gath m ρ c)

/-- It is the block of the device it came from. -/
theorem slot_cast (c : Dev nD) (k : Fin 16) (h : S1x256x4096.ShapeCasts S256x4096) :
    shapeCast S256x4096 (slotV m ρ c k) h = xstg m ρ (org c k.val) := by
  funext i
  rw [shapeCast_dropUnit_apply (n := 2) (![256, 4096]) (slotV m ρ c k) h i]
  show gath m ρ c ((slotR k).emb _) = _
  rw [gath_apply]
  have e0 : ((slotR k).emb (Fin.cons ⟨0, Nat.one_pos⟩ i) 0).val = k.val := by
    rw [ValueKit.rect_emb_unit_val]; rfl
  rw [e0]
  congr 1
  funext a
  fin_cases a
  · exact Fin.ext ((ValueKit.rect_emb_unit_val _ _ _ _ _).trans (Nat.zero_add _))
  · exact Fin.ext ((ValueKit.rect_emb_unit_val _ _ _ _ _).trans (Nat.zero_add _))

/-! ## The device's own block -/

theorem halfInb (b : Fin 2) : ∀ a, (![0, 2048 * b.val] : Fin 2 → ℕ) a + S256x2048.size a ≤ S256x4096.size a := by
  intro a
  fin_cases a
  · show 0 + 256 ≤ 256; omega
  · show 2048 * b.val + 2048 ≤ 4096; omega

/-- Half `b` of the device's block. -/
abbrev halfR (b : Fin 2) : Rect S256x4096 := Rect.unit (s := S256x4096) ![0, 2048 * b.val] S256x2048.size (halfInb b)
def halfV (c : Dev nD) (b : Fin 2) : Vec F S256x2048 .bf16 := (xM.access (halfR b)).read (Elt F) (xstg m ρ c)

/-- The piece of slot 15 for half `b`. -/
def own (b : Fin 2) : Fin 32 := ⟨30 + b.val, by omega⟩

theorem own_set (b : Fin 2) : (gM.access (pieceR (own b))).set = (pieceR (own b)).set := View.set_slice_whole _ _

theorem half_emb (b : Fin 2) (y : S256x2048.Idx) (a : Fin 2) : ((halfR b).emb y a).val = (![0, 2048 * b.val] : Fin 2 → ℕ) a + (y a).val :=
  ValueKit.rect_emb_unit_val _ _ _ _ _
theorem piece_emb (q : Fin 32) (z : S1x256x2048.Idx) (a : Fin 3) :
    ((pieceR q).emb z a).val = (![q.val / 2, 0, 2048 * (q.val % 2)] : Fin 3 → ℕ) a + (z a).val :=
  ValueKit.rect_emb_unit_val _ _ _ _ _

/-- Storing half `b` leaves in its piece what that is to hold. -/
theorem own_write (c : Dev nD) (b : Fin 2) (v : Vec F S1x256x2048 .bf16)
    (hv : v = shapeCast S1x256x2048 (halfV m ρ c b) shapeCasts_S256x2048_S1x256x2048) (f : Buf (Elt F) ((c : Thread nD τ).loc cc0_scratch0)) :
    ∀ i ∈ (pieceR (own b)).set, (gM.access (pieceR (own b))).write (Elt F) f v Finset.univ i = gath m ρ c i := by
  subst hv
  intro i hi'
  rw [← own_set] at hi'
  obtain ⟨z, rfl⟩ := View.exists_emb_of_mem_set _ hi'
  rw [View.write_emb_of_mem _ _ (Finset.mem_univ _), shapeCast_addUnit_apply (n := 2) (![256, 2048]) (halfV m ρ c b) _ z]
  show xstg m ρ c ((halfR b).emb _) = gath m ρ c ((pieceR (own b)).emb z)
  rw [gath_apply]
  have z0 : (z 0).val = 0 := by have : (z 0).val < 1 := (z 0).isLt; omega
  have hb := b.isLt
  have e0 : ((pieceR (own b)).emb z 0).val = 15 := by
    rw [ValueKit.rect_emb_unit_val, z0]; show (30 + b.val) / 2 + 0 = 15; omega
  rw [e0, org_own]
  congr 1
  funext a
  fin_cases a
  · refine Fin.ext ?_
    exact (half_emb b (fun a => z a.succ) 0).trans (piece_emb (own b) z 1).symm
  · refine Fin.ext ?_
    refine (half_emb b (fun a => z a.succ) 1).trans (Eq.trans ?_ (piece_emb (own b) z 2).symm)
    show 2048 * b.val + (z 2).val = 2048 * ((30 + b.val) % 2) + (z 2).val
    omega

theorem half1 (c : Dev nD) : k0_pay1 (halfV m ρ c 0) = shapeCast S1x256x2048 (halfV m ρ c 0) shapeCasts_S256x2048_S1x256x2048 := by
  unfold k0_pay1; dsimp only; rw [shapeCast_self]
theorem half2 (c : Dev nD) : k0_pay2 (halfV m ρ c 1) = shapeCast S1x256x2048 (halfV m ρ c 1) shapeCasts_S256x2048_S1x256x2048 := by
  unfold k0_pay2; dsimp only; rw [shapeCast_self]
/-- The copy of the device's columns of `w_mat` the products read. -/
theorem w_copy (c : Dev nD) : k0_pay3 (wstg m ρ c) = wstg m ρ c := by
  unfold k0_pay3; dsimp only; rw [shapeCast_self, shapeCast_self]

/-! ## The products -/

/-- One block of rows of the result: the block of `x` times the device's columns of `w_mat`. -/
def rows (X : Vec F S256x4096 .bf16) (Wm : Vec F S4096x128 .bf16) : FVec F S256x128 .f32 :=
  matmul dot_S256x4096_S4096x128_S256x128_1_0_0_1_n_n none X Wm (constant S256x128 .f32 0x00000000#32)

def ixO (r : Fin 256) (k : Fin 128) : S256x128.Idx := fun a => match a with | ⟨0, _⟩ => r | ⟨1, _⟩ => k

/-- The result on device `c`: on the rows of device `d`, `d`'s block of `x` times `c`'s columns of `w_mat`. -/
def outAt (c : Dev nD) : (cc0_stg2_0 : Ref sig .tc).ty.Contents (Elt F) :=
  fun i : S4096x128.Idx =>
    rows (xstg m ρ ⟨(i 0).val / 256, Nat.div_lt_of_lt_mul (i 0).isLt⟩) (wstg m ρ c)
      (ixO ⟨(i 0).val % 256, Nat.mod_lt _ (by decide)⟩ (i 1))

/-- Storing the product for device `d`'s block at `d`'s rows leaves the result there and the rest as it was. -/
theorem put_rows (c d : Dev nD) (off : Fin S4096x128.rank → ℕ) (hoff : off = ![256 * d.val, 0]) (inb : ∀ a, off a + S256x128.size a ≤ S4096x128.size a)
    (g : Buf (Elt F) ((c : Thread nD τ).loc cc0_stg2_0)) (i : S4096x128.Idx) :
    (oM.access (Rect.unit (s := S4096x128) off S256x128.size inb)).write (Elt F) g (rows (xstg m ρ d) (wstg m ρ c)) Finset.univ i
      = if (i 0).val / 256 = d.val then outAt m ρ c i else g i := by
  subst hoff
  have h0 : (i 0).val < 4096 := (i 0).isLt
  have h1 : (i 1).val < 128 := (i 1).isLt
  by_cases h : (i 0).val / 256 = d.val
  · rw [if_pos h]
    have hm : i ∈ (oM.access (Rect.unit (s := S4096x128) ![256 * d.val, 0] S256x128.size inb)).set := by
      rw [show (oM.access (Rect.unit (s := S4096x128) ![256 * d.val, 0] S256x128.size inb)).set
        = (Rect.unit (s := S4096x128) ![256 * d.val, 0] S256x128.size inb).set from View.set_slice_whole _ _, Rect.mem_set_unit]
      intro a
      fin_cases a
      · show 256 * d.val ≤ (i 0).val ∧ (i 0).val < 256 * d.val + 256; omega
      · show 0 ≤ (i 1).val ∧ (i 1).val < 0 + 128; omega
    obtain ⟨z, rfl⟩ := View.exists_emb_of_mem_set _ hm
    rw [View.write_emb_of_mem _ _ (Finset.mem_univ _)]
    have z0 : (z 0).val < 256 := (z 0).isLt
    have e0 : ((oM.access (Rect.unit (s := S4096x128) ![256 * d.val, 0] S256x128.size inb)).emb z 0).val = 256 * d.val + (z 0).val :=
      ValueKit.rect_emb_unit_val _ _ _ _ _
    have e1 : ((oM.access (Rect.unit (s := S4096x128) ![256 * d.val, 0] S256x128.size inb)).emb z 1).val = 0 + (z 1).val :=
      ValueKit.rect_emb_unit_val _ _ _ _ _
    unfold outAt
    rw [show (⟨((oM.access (Rect.unit (s := S4096x128) ![256 * d.val, 0] S256x128.size inb)).emb z 0).val / 256,
        Nat.div_lt_of_lt_mul ((oM.access (Rect.unit (s := S4096x128) ![256 * d.val, 0] S256x128.size inb)).emb z 0).isLt⟩ : Dev nD) = d from Fin.ext h]
    refine congrArg (rows (xstg m ρ d) (wstg m ρ c)) ?_
    funext a
    fin_cases a
    · refine Fin.ext (Eq.trans ?_ (congrArg (· % 256) e0).symm)
      show (z 0).val = (256 * d.val + (z 0).val) % 256
      omega
    · exact Fin.ext ((Nat.zero_add _).symm.trans e1.symm)
  · rw [if_neg h]
    refine View.write_of_not_mem (Val := Elt F) (v := oM.access (Rect.unit (s := S4096x128) ![256 * d.val, 0] S256x128.size inb)) g _ _ ?_
    rw [show (oM.access (Rect.unit (s := S4096x128) ![256 * d.val, 0] S256x128.size inb)).setOn Finset.univ
        = (Rect.unit (s := S4096x128) ![256 * d.val, 0] S256x128.size inb).set from View.set_slice_whole _ _, Rect.mem_set_unit]
    intro hm
    have := hm 0
    dsimp at this
    omega

end Cert.RingProof

end
-- ==== Proof.Product.lean ====
/-
# One block of rows

At exact values a product of matrices is, entry by entry, the sum of the products along the contracted axis: of a block
of rows by a block of columns as the kernel computes it, and of the two whole arrays as the reference does.
-/
module

public import proofs.«01_k».proof.Proof.Block
public import Idealize.ShloMosaic.Lib.KernelVsHost
public import Idealize.ShloMosaic.Lib.StackMember
public import proofs.«01_k».proof.Proof.Gen.ReferenceIdeal

@[expose] public section

noncomputable section

namespace Cert.RingProof

open Idealize.ShloMosaic hiding ix2
open Idealize.ShloMosaic.ValueIdx Idealize.ShloMosaic.StackMember
open scoped BigOperators

/-- The kernel's product of a block of `x` and a block of columns of `w_mat`, at an entry. -/
theorem rows_entry (X : FVec Ideal KernelIdeal.S256x4096 .bf16) (W : FVec Ideal KernelIdeal.S4096x128 .bf16) (r : Fin 256) (k : Fin 128) :
    rows (F := Ideal) X W (ix2 r k) = ∑ t : Fin 4096, X (ix2 r t) * W (ix2 t k) := by
  unfold rows
  rw [matmul_zero_eq_dotGeneral]
  exact dotGeneral_plain_apply (m := 256) (n := 128) (k := 4096) none X W r k

/-- The reference's product of the whole arrays, at an entry. -/
theorem whole_entry (X : FVec Ideal ReferenceIdeal.S4096x4096 .bf16) (W : FVec Ideal ReferenceIdeal.S4096x2048 .bf16) (r : Fin 4096) (k : Fin 2048) :
    (Host.dotGeneral ReferenceIdeal.dot_S4096x4096_S4096x2048_S4096x2048_1_0_0_1_n_n none X W : FVec Ideal ReferenceIdeal.S4096x2048 .f32) (ix2 r k)
      = ∑ t : Fin 4096, X (ix2 r t) * W (ix2 t k) :=
  dotGeneral_plain_apply (m := 4096) (k := 4096) (n := 2048) none X W r k

end Cert.RingProof

end
-- ==== Proof.Sched.lean ====
/-
# The schedule of the semaphores

Every device has one barrier semaphore and sixty-four transfer semaphores (thirty-two for sending, thirty-two for
receiving, of which thirty each are used). Each is used for one round only. The two signals on a device's barrier come
from its neighbours, and each brings the pieces of the neighbour's buffer that the device is going to fill. A transfer
pays its sender's semaphore with the piece it read and its receiver's with the piece it filled.
-/
module

public import proofs.«01_k».proof.Proof.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB
local notation "𝕄" => MT nD τ sig Unit (Elt F) ℕ UU ℕ

/-- The pipeline's part of the ghost state, and the ring's. -/
abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The semaphores -/

abbrev barS : Sem sig := (SemArray.scalar (sig.barrier 0 rfl) : Sems sig S_).sem

/-- The sixty-four transfer semaphores in one numbering. -/
def xsem (i : Fin 64) : DmaSem sig := ⟨3 + i.val, by have := i.isLt; show 3 + i.val < 67; omega⟩
/-- The number of transfer `n`'s sending semaphore, and of its receiving one. -/
def sI (n : Tx) : Fin 64 := ⟨(sm n).val, by omega⟩
def rI (n : Tx) : Fin 64 := ⟨32 + (sm n).val, by omega⟩
/-- The four that no transfer uses. -/
def idle : Finset (Fin 64) := {15, 31, 47, 63}

theorem sI_injective : Function.Injective sI := by intro a b; revert a b; decide
theorem rI_injective : Function.Injective rI := by intro a b; revert a b; decide
theorem xsem_injective : Function.Injective xsem := fun a b h => Fin.ext (by have := congrArg Fin.val h; simp only [xsem] at this; omega)

abbrev osem (i : Fin 64) : SemLoc sig := .dma (xsem i)
abbrev barCell (c : Dev nD) : GSem nD τ sig := ((c : Thread nD τ), .reg barS)
abbrev xCell (c : Dev nD) (i : Fin 64) : GSem nD τ sig := ((c : Thread nD τ), osem i)
abbrev sendCell (c : Dev nD) (n : Tx) : GSem nD τ sig := xCell c (sI n)
abbrev recvCell (c : Dev nD) (n : Tx) : GSem nD τ sig := xCell c (rI n)

/-- All semaphores of a device: the barrier, then the transfers'. -/
abbrev CI : Type := Unit ⊕ Fin 64
abbrev csem : CI → SemLoc sig
  | .inl _ => .reg barS
  | .inr i => osem i
abbrev kcell (ck : Dev nD × CI) : GSem nD τ sig := ((ck.1 : Thread nD τ), csem ck.2)

omit [FloatOps F] in
theorem sep_union {I : Type} [DecidableEq I] {s t : Finset I} (h : Disjoint s t) (Φ : I → sProp 𝕄) :
    bigSep (s ∪ t) Φ = iprop(bigSep s Φ ∗ bigSep t Φ) := BI.bigSep_union h
omit [FloatOps F] in
theorem sep_insert {I : Type} [DecidableEq I] {s : Finset I} {i : I} (h : i ∉ s) (Φ : I → sProp 𝕄) :
    bigSep (insert i s) Φ = iprop(Φ i ∗ bigSep s Φ) := BI.bigSep_insert h
omit [FloatOps F] in
theorem sep_erase {I : Type} [DecidableEq I] {s : Finset I} {i : I} (h : i ∈ s) (Φ : I → sProp 𝕄) :
    bigSep s Φ = iprop(Φ i ∗ bigSep (s.erase i) Φ) := BI.bigSep_erase h

omit [FloatOps F] in
/-- Something for each transfer semaphore is something for each sending one, each receiving one and the four idle ones. -/
theorem bigSep_xsem (Φ : Fin 64 → sProp 𝕄) :
    bigSep Finset.univ Φ = iprop((bigSep Finset.univ fun n => Φ (sI n)) ∗ (bigSep Finset.univ fun n => Φ (rI n)) ∗ bigSep idle Φ) := by
  rw [show (Finset.univ : Finset (Fin 64)) = Finset.univ.image sI ∪ (Finset.univ.image rI ∪ idle) by decide,
    sep_union (by decide), sep_union (by decide), bigSep_image_of_injOn sI_injective.injOn, bigSep_image_of_injOn rI_injective.injOn]

/-! ## What the transfers carry -/

/-- Piece `q` of device `c`'s buffer, at share `sh`, holding `f` there. -/
def piece (c : Dev nD) (q : Fin 32) (sh : PosShare TreeShare) (f : Buf (Elt F) ((c : Thread nD τ).loc cc0_scratch0)) : sProp 𝕄 :=
  ((c : Thread nD τ).loc cc0_scratch0) ↦[(pieceR q).set]{sh} f

omit [FloatOps F] in
instance piece_storable (c : Dev nD) (q : Fin 32) (sh : PosShare TreeShare) (f) : BI.Storable (upEmb : UEmb _ 𝕄) (piece (F := F) c q sh f) := by
  unfold piece; infer_instance

/-- The share of its source piece a transfer takes: the device's own block is read by a transfer to either side, and by
    its own product; a received piece by one transfer and the product. -/
def shr (n : Tx) : PosShare TreeShare :=
  if n.val < 4 ∧ n.val % 2 = 1 then fullShare.left.right else fullShare.right

/-- The piece transfer `n` of device `c` is going to fill, with any contents. -/
def hole (c : Dev nD) (n : Tx) : sProp 𝕄 := iprop(∃ f, piece (F := F) (nb n c) (dp n) fullShare f)

/-- The transfers to one side. -/
def side (d : Bool) : Finset Tx := Finset.univ.filter fun n => n.val % 2 = if d then 0 else 1

/-- What a neighbour's signal brings device `c`: the pieces of the neighbour's buffer `c` fills. -/
def barPay (c : Dev nD) (d : Bool) : sProp 𝕄 := bigSep (side d) (hole (F := F) c)
/-- The piece transfer `n` of device `c` reads, at the share it takes. -/
def sendPay (c : Dev nD) (n : Tx) : sProp 𝕄 := piece c (sp n) (shr n) (gath m ρ c)
/-- The piece transfer `n` fills on device `c`. -/
def recvPay (c : Dev nD) (n : Tx) : sProp 𝕄 := piece c (dp n) fullShare (gath m ρ c)

/-! ## The schedule -/

/-- The duties of a semaphore's round, what each is worth and what it brings. -/
def dutiesAt : SemLoc sig → Finset Bool
  | .reg _ => Finset.univ
  | .dma q => if 3 ≤ q.val ∧ (q.val - 3) % 16 ≠ 15 then {false} else ∅
def amountAt : SemLoc sig → ℕ
  | .reg _ => 1
  | .dma _ => N
def payAt (c : Dev nD) (d : Bool) : SemLoc sig → sProp 𝕄
  | .reg _ => barPay c d
  | .dma q => if q.val < 35 then sendPay m ρ c (un (q.val - 3)) else recvPay m ρ c (un (q.val - 35))

/-- One round for every semaphore. -/
def rd : Rounds.Schedule (GSem nD τ sig) Bool 𝕄 where
  duties g r := if r = 0 ∧ g.1.2 = .tc then dutiesAt g.2 else ∅
  unitless _ := False
  amount g _ _ := amountAt g.2
  payload g _ d := payAt m ρ g.1.1 d g.2
  amount_pos g _ _ _ := by
    rcases g with ⟨_, _ | _⟩
    · exact Nat.one_pos
    · exact N_pos

omit [FloatOps F] in
instance bigSep_storable {I : Type} [DecidableEq I] (s : Finset I) (Φ : I → sProp 𝕄) [∀ i, BI.Storable (upEmb : UEmb _ 𝕄) (Φ i)] :
    BI.Storable (upEmb : UEmb _ 𝕄) (bigSep s Φ) := by
  induction s using Finset.induction_on with
  | empty => rw [BI.bigSep_empty]; exact (inferInstance : BI.Storable (upEmb : UEmb _ 𝕄) iprop(emp))
  | insert a s ha ih => rw [sep_insert ha]; infer_instance

instance rd_payload_storable (g : GSem nD τ sig) (r : ℕ) (d : Bool) : BI.Storable (upEmb : UEmb _ 𝕄) ((rd (F := F) m ρ).payload g r d) := by
  show BI.Storable upEmb (payAt m ρ g.1.1 d g.2)
  rcases g with ⟨⟨c, _⟩, _ | q⟩
  · show BI.Storable upEmb (barPay c d)
    unfold barPay hole; infer_instance
  · show BI.Storable upEmb (if q.val < 35 then sendPay m ρ c (un (q.val - 3)) else recvPay m ρ c (un (q.val - 35)))
    unfold sendPay recvPay; split <;> infer_instance

section Facts
variable (c : Dev nD) (n : Tx)

theorem xsem_val (i : Fin 64) : (xsem i).val = 3 + i.val := rfl

theorem dutiesAt_used (i : Fin 64) (h : i.val % 16 ≠ 15) : dutiesAt (osem i) = {false} := by
  show (if 3 ≤ (xsem i).val ∧ ((xsem i).val - 3) % 16 ≠ 15 then ({false} : Finset Bool) else ∅) = _
  rw [xsem_val, if_pos ⟨by omega, by rw [Nat.add_sub_cancel_left]; exact h⟩]

theorem dutiesAt_idle (i : Fin 64) (h : i ∈ idle) : dutiesAt (osem i) = ∅ := by
  show (if 3 ≤ (xsem i).val ∧ ((xsem i).val - 3) % 16 ≠ 15 then ({false} : Finset Bool) else ∅) = _
  have : i.val % 16 = 15 := by revert i; decide
  rw [xsem_val, if_neg]
  rintro ⟨-, h'⟩
  rw [Nat.add_sub_cancel_left] at h'
  exact h' this

theorem sI_used : (sI n).val % 16 ≠ 15 := by revert n; decide
theorem rI_used : (rI n).val % 16 ≠ 15 := by revert n; decide

theorem duties_bar : (rd (F := F) m ρ).duties (barCell c) 0 = Finset.univ := by
  dsimp only [rd]; exact if_pos ⟨rfl, rfl⟩
theorem duties_send : (rd (F := F) m ρ).duties (sendCell c n) 0 = {false} := by
  dsimp only [rd]; rw [if_pos ⟨rfl, rfl⟩]; exact dutiesAt_used _ (sI_used n)
theorem duties_recv : (rd (F := F) m ρ).duties (recvCell c n) 0 = {false} := by
  dsimp only [rd]; rw [if_pos ⟨rfl, rfl⟩]; exact dutiesAt_used _ (rI_used n)
theorem duties_later (g : GSem nD τ sig) : ∀ r, 1 ≤ r → (rd (F := F) m ρ).duties g r = ∅ := fun r hr => if_neg fun h => by omega
theorem duties_idle (i : Fin 64) (h : i ∈ idle) : ∀ r, 0 ≤ r → (rd (F := F) m ρ).duties (xCell c i) r = ∅ := fun r _ => by
  show (if r = 0 ∧ (c : Thread nD τ).2 = .tc then dutiesAt (osem i) else ∅) = ∅
  rw [dutiesAt_idle i h, ite_self]

theorem amount_bar (d : Bool) : (rd (F := F) m ρ).amount (barCell c) 0 d = 1 := rfl
theorem amount_x (i : Fin 64) (d : Bool) : (rd (F := F) m ρ).amount (xCell c i) 0 d = N := rfl

theorem expect_bar : (rd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send : (rd (F := F) m ρ).expect (sendCell c n) 0 = N := by
  unfold Schedule.expect Schedule.amountOf; rw [duties_send, Finset.sum_singleton, amount_x]
theorem expect_recv : (rd (F := F) m ρ).expect (recvCell c n) 0 = N := by
  unfold Schedule.expect Schedule.amountOf; rw [duties_recv, Finset.sum_singleton, amount_x]

theorem payload_bar (d : Bool) : (rd (F := F) m ρ).payload (barCell c) 0 d = barPay c d := rfl
theorem payload_send (d : Bool) : (rd (F := F) m ρ).payload (sendCell c n) 0 d = sendPay m ρ c n := by
  show (if (xsem (sI n)).val < 35 then sendPay m ρ c (un ((xsem (sI n)).val - 3)) else _) = _
  rw [xsem_val, if_pos (by have := (sm n).isLt; show 3 + (sm n).val < 35; omega), Nat.add_sub_cancel_left]
  exact congrArg _ (un_sm n)
theorem payload_recv (d : Bool) : (rd (F := F) m ρ).payload (recvCell c n) 0 d = recvPay m ρ c n := by
  show (if (xsem (rI n)).val < 35 then _ else recvPay m ρ c (un ((xsem (rI n)).val - 35))) = _
  rw [xsem_val, if_neg (by show ¬ 3 + (32 + (sm n).val) < 35; omega),
    show 3 + (rI n).val - 35 = (sm n).val from by show 3 + (32 + (sm n).val) - 35 = _; omega, un_sm]

/-- What the barrier's round brings: the holes of all thirty transfers. -/
theorem rest_bar : bigSep ((rd (F := F) m ρ).duties (barCell c) 0 \ ∅) (fun d => (rd (F := F) m ρ).payload (barCell c) 0 d)
    = bigSep Finset.univ (hole (F := F) c) := by
  rw [Finset.sdiff_empty, duties_bar, bigSep_univ_eq_bigSepL [false, true] (by decide) (by decide), bigSepL_cons_cons, bigSepL_singleton,
    payload_bar, payload_bar]
  unfold barPay
  rw [show (Finset.univ : Finset Tx) = side false ∪ side true by decide, sep_union (by decide)]
  rfl
theorem rest_send : bigSep ((rd (F := F) m ρ).duties (sendCell c n) 0 \ ∅) (fun d => (rd (F := F) m ρ).payload (sendCell c n) 0 d) = sendPay m ρ c n := by
  rw [Finset.sdiff_empty, duties_send, bigSep_singleton, payload_send]
theorem rest_recv : bigSep ((rd (F := F) m ρ).duties (recvCell c n) 0 \ ∅) (fun d => (rd (F := F) m ρ).payload (recvCell c n) 0 d) = recvPay m ρ c n := by
  rw [Finset.sdiff_empty, duties_recv, bigSep_singleton, payload_recv]

end Facts

/-! ## What is owed, and the levels -/

/-- What device `c` owes with the first `a` transfers started: each later one's credit on the neighbour's semaphore. -/
def Ow (c : Dev nD) (a : ℕ) : CellTallies nD τ sig Unit :=
  ∑ n ∈ (Finset.univ : Finset Tx).filter (fun n => a ≤ n.val), tallyAt (recvCell (nb n c) n) () N
/-- What it owes at the start: all of that and a unit on either neighbour's barrier. -/
def O₁ (c : Dev nD) : CellTallies nD τ sig Unit := Ow c 0 + tallyAt (barCell (rt c)) () 1
def O₀ (c : Dev nD) : CellTallies nD τ sig Unit := O₁ c + tallyAt (barCell (lt c)) () 1

/-- A start pays one of them. -/
theorem Ow_step (c : Dev nD) (n : Tx) : Ow c n.val = Ow c (n.val + 1) + tallyAt (recvCell (nb n c) n) () N := by
  unfold Ow
  rw [show ((Finset.univ : Finset Tx).filter fun k => n.val ≤ k.val) = insert n ((Finset.univ : Finset Tx).filter fun k => n.val + 1 ≤ k.val) from by
      ext k; simp only [Finset.mem_filter, Finset.mem_univ, true_and, Finset.mem_insert, Fin.ext_iff]; omega,
    Finset.sum_insert (by simp), add_comm]
theorem Ow_end (c : Dev nD) : Ow c 30 = 0 := by
  unfold Ow
  rw [show ((Finset.univ : Finset Tx).filter fun k => 30 ≤ k.val) = ∅ from by decide, Finset.sum_empty]

theorem tally_pos {g g' : GSem nD τ sig} {k : ℕ} {u : Unit} (h : 0 < tallyAt (Ix := Unit) g' () k g u) : g = g' := by
  rw [tallyAt_apply] at h
  by_contra hg
  rw [if_neg fun h'' => hg h''.1] at h
  exact Nat.lt_irrefl 0 h

theorem Ow_pos {c : Dev nD} {a : ℕ} {g : GSem nD τ sig} {u : Unit} (h : 0 < Ow c a g u) : ∃ n : Tx, a ≤ n.val ∧ g = recvCell (nb n c) n := by
  unfold Ow at h
  rw [Finset.sum_apply, Finsupp.finsetSum_apply] at h
  obtain ⟨n, hn, h'⟩ := Finset.exists_ne_zero_of_sum_ne_zero (Nat.pos_iff_ne_zero.mp h)
  refine ⟨n, (Finset.mem_filter.mp hn).2, ?_⟩
  exact tally_pos (Nat.pos_of_ne_zero h')

theorem O₀_pos {c : Dev nD} {g : GSem nD τ sig} {u : Unit} (h : 0 < O₀ c g u) :
    (∃ n : Tx, g = recvCell (nb n c) n) ∨ g = barCell (rt c) ∨ g = barCell (lt c) := by
  have h' : 0 < Ow c 0 g u + tallyAt (barCell (rt c)) () 1 g u + tallyAt (barCell (lt c)) () 1 g u := h
  rcases Nat.eq_zero_or_pos (Ow c 0 g u) with e1 | p1
  · rcases Nat.eq_zero_or_pos (tallyAt (barCell (rt c)) () 1 g u) with e2 | p2
    · rw [e1, e2, Nat.zero_add] at h'
      exact .inr (.inr (tally_pos h'))
    · exact .inr (.inl (tally_pos p2))
  · obtain ⟨n, -, hg⟩ := Ow_pos p1
    exact .inl ⟨n, hg⟩

def L (g : GSem nD τ sig) : Finset Unit := if g.1.2 = .tc then {()} else ∅
/-- Levels: the barriers at 1; a receiving semaphore at 2 and the hop of its transfer; all others at 0. -/
def lvAt : SemLoc sig → ℕ
  | .reg _ => 1
  | .dma q => if 35 ≤ q.val then 2 + (un (q.val - 35)).val / 4 else 0
def lv (g : GSem nD τ sig) (_ : Unit) : ℕ := lvAt g.2

theorem L_of_ne (g : GSem nD τ sig) (h : g.1.2 ≠ .tc) : L g = ∅ := if_neg h
theorem L_tc (c : Dev nD) (s : SemLoc sig) : L ((c : Thread nD τ), s) = {()} := if_pos rfl

theorem lv_recv (c : Dev nD) (n : Tx) : lv (recvCell c n) () = 2 + n.val / 4 := by
  show (if 35 ≤ (xsem (rI n)).val then 2 + (un ((xsem (rI n)).val - 35)).val / 4 else 0) = _
  rw [xsem_val, if_pos (by show 35 ≤ 3 + (32 + (sm n).val); omega),
    show 3 + (rI n).val - 35 = (sm n).val from by show 3 + (32 + (sm n).val) - 35 = _; omega, un_sm]
theorem lv_low (q : DmaSem sig) (h : q.val < 35) : lvAt (.dma q) = 0 := if_neg (by omega)

/-- A wait below everything that is owed is allowed. -/
theorem mayWait_low (c : Dev nD) (s : SemLoc sig) (O : CellTallies nD τ sig Unit)
    (hO : ∀ g u, 0 < O g u → g.1.2 = .tc ∧ lvAt s < lvAt g.2) :
    (levAts L lv : sProp 𝕄) ⊢ MayWait (c : Thread nD τ) s () O :=
  MayOwe.of_cut (L := L) (lev := lv) (lvAt s) (fun p hp => by rw [Finset.mem_singleton.mp hp, L_tc]; exact Finset.mem_singleton_self _)
    (fun g u hg => by
      have := (hO g u hg).1
      show u ∈ L g
      unfold L; rw [if_pos this]; exact Finset.mem_singleton_self _)
    (fun p hp => by rw [Finset.mem_singleton.mp hp]; exact le_rfl)
    (fun g u hg => (hO g u hg).2)

/-- Before anything is paid a staging wait is allowed. -/
theorem mayWait_stage (c : Dev nD) (q : DmaSem sig) (hq : q.val < 35) (O : CellTallies nD τ sig Unit) (hO : O = O₀ c ∨ O = 0) :
    (levAts L lv : sProp 𝕄) ⊢ MayWait (c : Thread nD τ) (.dma q) () O := by
  rcases hO with rfl | rfl
  · refine mayWait_low c _ _ fun g u hg => ?_
    rw [lv_low q hq]
    rcases O₀_pos hg with ⟨n, rfl⟩ | rfl | rfl
    · exact ⟨rfl, by have := lv_recv (nb n c) n; unfold lv at this; rw [this]; omega⟩
    · exact ⟨rfl, Nat.one_pos⟩
    · exact ⟨rfl, Nat.one_pos⟩
  · rw [MayWait_zero]; iintro -; iempintro

/-- The barrier wait, with both signals sent. -/
theorem mayWait_bar (c : Dev nD) : (levAts L lv : sProp 𝕄) ⊢ MayWait (c : Thread nD τ) (.reg barS) () (Ow c 0) :=
  mayWait_low c _ _ fun g u hg => by
    obtain ⟨n, -, rfl⟩ := Ow_pos hg
    refine ⟨rfl, ?_⟩
    have := lv_recv (nb n c) n; unfold lv at this; rw [this]
    show 1 < _; omega

/-- The wait for transfer `n`'s arrival, once everything of its hop and before is started. -/
theorem mayWait_recv (c : Dev nD) (n : Tx) (a : ℕ) (h : n.val / 4 < a / 4 ∨ 30 ≤ a) :
    (levAts L lv : sProp 𝕄) ⊢ MayWait (c : Thread nD τ) (osem (rI n)) () (Ow c a) :=
  mayWait_low c _ _ fun g u hg => by
    obtain ⟨k, hk, rfl⟩ := Ow_pos hg
    refine ⟨rfl, ?_⟩
    have h1 := lv_recv (nb k c) k
    have h2 := lv_recv c n
    unfold lv at h1 h2; rw [h1, h2]
    have := k.isLt
    omega

/-- The waits for a sending semaphore come after all starts. -/
theorem mayWait_send (c : Dev nD) (n : Tx) : (levAts L lv : sProp 𝕄) ⊢ MayWait (c : Thread nD τ) (osem (sI n)) () (Ow c 30) := by
  rw [Ow_end, MayWait_zero]; iintro -; iempintro

end Cert.RingProof

end
-- ==== Proof.State.lean ====
/-
# The state of a device between two operations

Between two operations of the kernel a device's state is described by three numbers: `a`, how many transfers it has
started, `e`, how many of those it has waited for, and `b`, how many arrivals it has waited for. For each transfer and
each arrival these say what the device holds on its account. Everything else it holds, its buffers of `x`, `w_mat` and
the result among them, is carried along beside.
-/
module

public import proofs.«01_k».proof.Proof.Sched
public import proofs.«01_k».proof.Proof.Block

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-! ## What every device knows -/

/-- Every semaphore of every device follows the schedule, and its one round is open. -/
def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records m ρ K) := by unfold records; infer_instance

theorem inv_at (K : Dev nD × CI → ℕ) (ck : Dev nD × CI) : records m ρ K ⊢ cellInv ER (rd m ρ) (K ck) (kcell ck) := by
  have h : (bigSep Finset.univ fun ck : Dev nD × CI => (cellInv ER (rd m ρ) (K ck) (kcell ck) : sProp 𝕄)) ⊢ cellInv ER (rd m ρ) (K ck) (kcell ck) :=
    bigSep_elim (Finset.mem_univ ck)
  unfold records; iintro ⟨H, -⟩
  iapply h; iexact H
theorem reached_at (K : Dev nD × CI → ℕ) (ck : Dev nD × CI) : records m ρ K ⊢ (reached ER (kcell ck) 0 : sProp 𝕄) := by
  have h : (bigSep Finset.univ fun ck : Dev nD × CI => (reached ER (kcell ck) 0 : sProp 𝕄)) ⊢ reached ER (kcell ck) 0 :=
    bigSep_elim (Finset.mem_univ ck)
  unfold records; iintro ⟨-, H⟩
  iapply h; iexact H

/-! ## On account of each transfer -/

/-- Not yet started: the piece to fill, both tokens, the place at the sending semaphore. -/
def todo (c : Dev nD) (n : Tx) : sProp 𝕄 :=
  iprop(hole (F := F) c n ∗ dutyTok ER (sendCell c n) 0 false ∗ dutyTok ER (recvCell (nb n c) n) 0 false ∗ atPos ER (sendCell c n) 0 ∅ 0)
/-- Under way: the credit and the place at the sending semaphore. -/
def away (c : Dev nD) (n : Tx) : sProp 𝕄 := iprop(cred (tallyAt (sendCell c n) () N) ∗ atPos ER (sendCell c n) 0 ∅ 0)
/-- Waited for: the semaphore at zero again and the piece that was read. -/
def done (c : Dev nD) (n : Tx) : sProp 𝕄 := iprop(semVal (sendCell c n) 0 ∗ sendPay m ρ c n)

/-- On account of the outgoing transfer `n`, with `a` started and `e` of them waited for. -/
def outSt (c : Dev nD) (a e : ℕ) (n : Tx) : sProp 𝕄 :=
  if n.val < e then done m ρ c n else if n.val < a then away c n else todo c n

/-- The arrivals that are sent on. -/
def fwd (n : Tx) : Prop := n.val ≤ 24 ∨ n.val = 27
instance (n : Tx) : Decidable (fwd n) := by unfold fwd; infer_instance

/-- Not yet waited for: the credit and the place at the receiving semaphore. -/
def due (c : Dev nD) (n : Tx) : sProp 𝕄 := iprop(cred (tallyAt (recvCell c n) () N) ∗ atPos ER (recvCell c n) 0 ∅ 0)
/-- Waited for: the semaphore at zero again and the piece, less what is sent on. -/
def here (c : Dev nD) (n : Tx) : sProp 𝕄 :=
  iprop(semVal (recvCell c n) 0 ∗ piece c (dp n) fullShare.left (gath m ρ c)
    ∗ if fwd n then iprop(emp) else piece c (dp n) fullShare.right (gath m ρ c))

/-- On account of the arrival `n`, with `b` waited for. -/
def inSt (c : Dev nD) (b : ℕ) (n : Tx) : sProp 𝕄 := if n.val < b then here m ρ c n else due c n

/-! ## The state -/

/-- The state of device `c` with `a` transfers started, `e` waited for and `b` arrivals waited for, beside `R`. -/
def St (c : Dev nD) (K : Dev nD × CI → ℕ) (a e b : ℕ) (R : sProp 𝕄) : sProp 𝕄 :=
  iprop(records m ρ K ∗ levAts L lv ∗ (∃ W, owes (c : Thread nD τ) (Ow c a) W)
    ∗ bigSep Finset.univ (outSt m ρ c a e) ∗ bigSep Finset.univ (inSt m ρ c b) ∗ R)

theorem St_mono (c : Dev nD) (K : Dev nD × CI → ℕ) (a e b : ℕ) {R R' : sProp 𝕄} (h : R ⊢ R') : St m ρ c K a e b R ⊢ St m ρ c K a e b R' := by
  unfold St
  iintro ⟨H1, H2, H3, H4, H5, HR⟩
  isplitl [H1]; · iexact H1
  isplitl [H2]; · iexact H2
  isplitl [H3]; · iexact H3
  isplitl [H4]; · iexact H4
  isplitl [H5]; · iexact H5
  iapply h; iexact HR

/-- One entry of a family changes. -/
theorem bigSep_turn (n : Tx) {Φ Ψ : Tx → sProp 𝕄} (h : ∀ k, k ≠ n → Φ k = Ψ k) :
    bigSep Finset.univ Φ ⊢ iprop(Φ n ∗ (Ψ n -∗ bigSep Finset.univ Ψ)) := by
  rw [sep_erase (Finset.mem_univ n) Φ, sep_erase (Finset.mem_univ n) Ψ,
    bigSep_congr (s := Finset.univ.erase n) (Φ := Φ) (Ψ := Ψ) fun k hk => h k (Finset.ne_of_mem_erase hk)]
  iintro ⟨H, HR⟩
  isplitl [H]; · iexact H
  iintro H
  isplitl [H] <;> iassumption

/-- Starting transfer `n` changes its entry only. -/
theorem turn_start (c : Dev nD) (n : Tx) (e : ℕ) (he : e ≤ n.val) :
    bigSep Finset.univ (outSt m ρ c n.val e) ⊢ iprop(todo c n ∗ (away c n -∗ bigSep Finset.univ (outSt m ρ c (n.val + 1) e))) := by
  have h := bigSep_turn n (Φ := outSt m ρ c n.val e) (Ψ := outSt m ρ c (n.val + 1) e) fun k hk => by
    have : k.val ≠ n.val := fun h => hk (Fin.ext h)
    unfold outSt
    split
    · rfl
    · exact if_congr (by omega) rfl rfl
  rwa [show outSt m ρ c n.val e n = todo c n from (if_neg (by omega)).trans (if_neg (by omega)),
    show outSt m ρ c (n.val + 1) e n = away c n from (if_neg (by omega)).trans (if_pos (by omega))] at h

/-- So does waiting for it, -/
theorem turn_done (c : Dev nD) (n : Tx) :
    bigSep Finset.univ (outSt m ρ c 30 n.val) ⊢ iprop(away c n ∗ (done m ρ c n -∗ bigSep Finset.univ (outSt m ρ c 30 (n.val + 1)))) := by
  have h := bigSep_turn n (Φ := outSt m ρ c 30 n.val) (Ψ := outSt m ρ c 30 (n.val + 1)) fun k hk => by
    have : k.val ≠ n.val := fun h => hk (Fin.ext h)
    unfold outSt
    exact if_congr (by omega) rfl rfl
  rwa [show outSt m ρ c 30 n.val n = away c n from (if_neg (by omega)).trans (if_pos n.isLt),
    show outSt m ρ c 30 (n.val + 1) n = done m ρ c n from if_pos (by omega)] at h

/-- and waiting for an arrival. -/
theorem turn_here (c : Dev nD) (n : Tx) :
    bigSep Finset.univ (inSt m ρ c n.val) ⊢ iprop(due c n ∗ (here m ρ c n -∗ bigSep Finset.univ (inSt m ρ c (n.val + 1)))) := by
  have h := bigSep_turn n (Φ := inSt m ρ c n.val) (Ψ := inSt m ρ c (n.val + 1)) fun k hk => by
    have : k.val ≠ n.val := fun h => hk (Fin.ext h)
    unfold inSt
    exact if_congr (by omega) rfl rfl
  rwa [show inSt m ρ c n.val n = due c n from if_neg (by omega), show inSt m ρ c (n.val + 1) n = here m ρ c n from if_pos (by omega)] at h

/-- An arrival that was waited for can be looked at. -/
theorem look_here (c : Dev nD) (n : Tx) (b : ℕ) (hb : n.val < b) :
    bigSep Finset.univ (inSt m ρ c b) ⊢ iprop(here m ρ c n ∗ (here m ρ c n -∗ bigSep Finset.univ (inSt m ρ c b))) := by
  have h := bigSep_turn n (Φ := inSt m ρ c b) (Ψ := inSt m ρ c b) fun _ _ => rfl
  rwa [show inSt m ρ c b n = here m ρ c n from if_pos hb] at h

/-! ## What is carried along -/

def xPts (c : Dev nD) : sProp 𝕄 := ((c : Thread nD τ).loc cc0_stg0_0) ↦{fullShare} xstg m ρ c
def wPts (c : Dev nD) : sProp 𝕄 := ((c : Thread nD τ).loc cc0_stg1_0) ↦{fullShare} wstg m ρ c
def vPts (c : Dev nD) (f : Buf (Elt F) ((c : Thread nD τ).loc cc0_scratch1)) : sProp 𝕄 := ((c : Thread nD τ).loc cc0_scratch1) ↦{fullShare} f
/-- The result buffer, right on the rows of the devices in `D`. -/
def oPts (c : Dev nD) (D : Finset (Dev nD)) : sProp 𝕄 :=
  iprop(∃ g : Buf (Elt F) ((c : Thread nD τ).loc cc0_stg2_0),
    ⌜∀ i : S4096x128.Idx, ∀ d ∈ D, (i 0).val / 256 = d.val → g i = outAt m ρ c i⌝ ∗ (((c : Thread nD τ).loc cc0_stg2_0) ↦{fullShare} g))
/-- The barrier and the idle semaphores at zero. -/
def zeros (c : Dev nD) : sProp 𝕄 := iprop(semVal (barCell c) 0 ∗ bigSep idle fun i => semVal (xCell c i) 0)
/-- The device's own block in slot 15, at the share its product reads. -/
def mine (c : Dev nD) (b : Fin 2) : sProp 𝕄 := piece c (own b) fullShare.left.left (gath m ρ c)

/-- The slot of the `t`-th product: the device's own block first, then by turns one from either side. -/
def slotAt (t : Fin 16) : Fin 16 := ⟨if t.val = 0 then 15 else if t.val % 2 = 1 then t.val / 2 else 7 + t.val / 2, by split <;> [decide; split <;> omega]⟩
/-- The devices whose blocks the first `t` products take. -/
def got (c : Dev nD) (t : ℕ) : Finset (Dev nD) := Finset.univ.filter fun d => ∃ u : Fin 16, u.val < t ∧ d = org c (slotAt u).val

theorem got_zero (c : Dev nD) : got c 0 = ∅ := by
  unfold got; exact Finset.filter_eq_empty_iff.mpr fun d _ ⟨u, h, _⟩ => Nat.not_lt_zero _ h
theorem got_succ (c : Dev nD) (t : Fin 16) : insert (org c (slotAt t).val) (got c t.val) = got c (t.val + 1) := by
  ext d
  simp only [got, Finset.mem_insert, Finset.mem_filter, Finset.mem_univ, true_and]
  constructor
  · rintro (h | ⟨u, h, e⟩)
    · exact ⟨t, Nat.lt_succ_self _, h⟩
    · exact ⟨u, Nat.lt_succ_of_lt h, e⟩
  · rintro ⟨u, h, e⟩
    rcases Nat.lt_succ_iff_lt_or_eq.mp h with h | h
    · exact .inr ⟨u, h, e⟩
    · exact .inl (by rw [e, Fin.ext h])
theorem slotAt_onto (k : Fin 16) : ∃ t, slotAt t = k := by revert k; decide
/-- All sixteen products take everyone's block. -/
theorem got_all (c d : Dev nD) : d ∈ got c 16 := by
  obtain ⟨k, hk⟩ := org_covers c d
  obtain ⟨t, rfl⟩ := slotAt_onto k
  exact Finset.mem_filter.mpr ⟨Finset.mem_univ _, t, t.isLt, hk.symm⟩

/-- What is carried along once the device's own block is in its slot and the copy of `w_mat` is made, `t` products done. -/
def Rest (c : Dev nD) (t : ℕ) : sProp 𝕄 :=
  iprop(mine m ρ c 0 ∗ mine m ρ c 1 ∗ xPts m ρ c ∗ wPts m ρ c ∗ vPts c (wstg m ρ c) ∗ oPts m ρ c (got c t) ∗ zeros c)
/-- The same before the copy of `w_mat`. -/
def Rest₂ (c : Dev nD) : sProp 𝕄 :=
  iprop(mine m ρ c 0 ∗ mine m ρ c 1 ∗ xPts m ρ c ∗ wPts m ρ c ∗ (∃ f, vPts (F := F) c f) ∗ oPts m ρ c (got c 0) ∗ zeros c)
/-- The same before the second half of the block is in its slot. -/
def Rest₁ (c : Dev nD) : sProp 𝕄 :=
  iprop(mine m ρ c 0 ∗ (∃ f, piece (F := F) c (own 1) fullShare f) ∗ xPts m ρ c ∗ wPts m ρ c ∗ (∃ f, vPts (F := F) c f) ∗ oPts m ρ c (got c 0) ∗ zeros c)
/-- And before the first half is. -/
def Rest₀ (c : Dev nD) : sProp 𝕄 :=
  iprop((∃ f, piece (F := F) c (own 0) fullShare f) ∗ (∃ f, piece (F := F) c (own 1) fullShare f)
    ∗ xPts m ρ c ∗ wPts m ρ c ∗ (∃ f, vPts (F := F) c f) ∗ oPts m ρ c (got c 0) ∗ zeros c)

/-- A piece in two shares. -/
theorem piece_share (c : Dev nD) (q : Fin 32) (sh : PosShare TreeShare) (f : Buf (Elt F) ((c : Thread nD τ).loc cc0_scratch0)) :
    piece c q sh f ⊣⊢ iprop(piece c q sh.left f ∗ piece c q sh.right f) := by
  unfold piece; exact pointsTo_share (PosShare.mem_left_op_right sh)

theorem piece_congr (c : Dev nD) (q : Fin 32) (sh : PosShare TreeShare) {f g : Buf (Elt F) ((c : Thread nD τ).loc cc0_scratch0)}
    (h : ∀ i ∈ (pieceR q).set, f i = g i) : piece c q sh f = piece c q sh g := by
  unfold piece; exact pointsTo_congr h

/-- The whole buffer is its pieces. -/
theorem gath_split (c : Dev nD) (f : Buf (Elt F) ((c : Thread nD τ).loc cc0_scratch0)) :
    (((c : Thread nD τ).loc cc0_scratch0) ↦{fullShare} f : sProp 𝕄) = bigSep Finset.univ fun q => piece c q fullShare f := by
  have h := pointsTo_biUnion (Ix := Unit) (Name := ℕ) (U := UU) (Lvl := ℕ) (ℓ := (c : Thread nD τ).loc cc0_scratch0) (q := fullShare) (f := f) Finset.univ
    (fun q : Fin 32 => ((pieceR q).set : Finset S16x256x4096.Idx)) (fun q _ q' _ h => pieces_disjoint q q' h)
  have h' : (Finset.univ.biUnion fun q : Fin 32 => ((pieceR q).set : Finset (Idx ((c : Thread nD τ).loc cc0_scratch0)))) = Finset.univ := by
    ext i
    have hi := congrArg (fun s : Finset S16x256x4096.Idx => i ∈ s) pieces_cover
    simp only [Finset.mem_biUnion] at hi ⊢
    exact iff_of_eq hi
  rw [h'] at h
  exact h

end Cert.RingProof

end
-- ==== Proof.Moves.lean ====
/-
# One operation at a time

Each theorem takes the state before an operation to the state after it: starting a transfer, waiting for an arrival,
waiting for a sending semaphore. The operation is given with equations saying which transfer it belongs to, so that one
theorem serves all thirty.
-/
module

public import proofs.«01_k».proof.Proof.State

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of the rest of device `c`'s program. -/
abbrev run {A : Type} (c : Dev nD) (prog : Prog (TpuEff nD τ sig (Elt F) Λ₀ .tc) A) (Q : A → sProp 𝕄) : sProp 𝕄 :=
  wp frame (wpE (defs₀ (F := F)) 𝒱₀ (c : Thread nD τ) none) Set.univ prog Q

theorem piece_amount (q : Fin 32) : (pieceM q).view.dmaCredit = N := rfl

/-- What a transfer leaves on its destination piece is what that piece is to hold. -/
theorem landed (n : Tx) (c : Dev nD) (fd : Buf (Elt F) ((nb n c : Thread nD τ).loc cc0_scratch0)) :
    (((nb n c : Thread nD τ).loc cc0_scratch0) ↦[(pieceM (dp n)).view.set]{fullShare}
        ((pieceM (dp n)).view.write (Elt F) fd ((pieceM (sp n)).view.read (Elt F) (gath m ρ c)) Finset.univ) : sProp 𝕄)
      = recvPay m ρ (nb n c) n := by
  rw [pieceM_set]
  exact piece_congr (nb n c) (dp n) fullShare (move_eq m ρ n c fd)

/-- A transfer at this schedule's semaphores: the piece it reads and the piece it fills are handed in, and so are the
    credit owed to its receiver and both tokens. -/
theorem wp_transfer (c : Dev nD) (K : Dev nD × CI → ℕ) (n : Tx)
    {hsc : (pieceM (dp n) : Memref sig (Dev.tc (nb n c) : Thread nD τ).2.kind .vmem S256x2048 .bf16).view.ref.isScScratch = false}
    {hsrc : (pieceM (sp n)).view.WordExact} {hdst : (pieceM (dp n) : Memref sig (Dev.tc (nb n c) : Thread nD τ).2.kind .vmem S256x2048 .bf16).view.WordExact}
    {hsem : DmaTarget.Typed .vmem (osem (rI n)) (.remote (Dev.tc (nb n c) : Thread nD τ) (pieceM (dp n)) (osem (sI n)) hsc)}
    {A : Type} {Q : A → sProp 𝕄} {k : PUnit → Prog (TpuEff nD τ sig (Elt F) Λ₀ .tc) A}
    (fd : Buf (Elt F) ((nb n c : Thread nD τ).loc cc0_scratch0)) (W : Waits sig Unit) :
    iprop(cellInv ER (rd m ρ) (K (c, .inr (sI n))) (sendCell c n) ∗ cellInv ER (rd m ρ) (K (nb n c, .inr (rI n))) (recvCell (nb n c) n)
        ∗ sendPay m ρ c n ∗ piece (nb n c) (dp n) fullShare fd
        ∗ owes (c : Thread nD τ) (Ow c n.val) W
        ∗ dutyTok ER (sendCell c n) 0 false ∗ reached ER (sendCell c n) 0
        ∗ dutyTok ER (recvCell (nb n c) n) 0 false ∗ reached ER (recvCell (nb n c) n) 0)
      ⊢ iprop(((cred (tallyAt (sendCell c n) () N) ∗ owes (c : Thread nD τ) (Ow c (n.val + 1)) W) -∗ run c (k ⟨⟩) Q)
          -∗ run c (.op (.enqueueDma (pieceM (sp n)) (.remote (Dev.tc (nb n c) : Thread nD τ) (pieceM (dp n)) (osem (sI n)) hsc) (osem (rI n)) hsrc hdst hsem) k) Q) := by
  unfold sendPay piece
  rw [← pieceM_set, ← pieceM_set]
  exact Rounds.wp_send_pointsTo 𝒱₀ ER (rd m ρ) (c : Thread nD τ) none (c' := (nb n c : Thread nD τ)) (src := pieceM (sp n)) (dst := pieceM (dp n))
    (sS := osem (sI n)) (sem := osem (rI n)) (q := shr n) (fs := gath m ρ c) (κ₁ := K (c, .inr (sI n))) (κ₂ := K (nb n c, .inr (rI n)))
    (r₁ := 0) (r₂ := 0) (d₁ := false) (d₂ := false) (fd := fd)
    (by rw [duties_send]; exact Finset.mem_singleton_self _) (by rw [duties_recv]; exact Finset.mem_singleton_self _)
    () () N rfl (amount_x m ρ c (sI n) false) (amount_x m ρ (nb n c) (rI n) false) (Ow c (n.val + 1)) (Ow_step c n) (W := W)
    (by rw [payload_send, pieceM_set]; exact BI.Entails.refl _)
    (by rw [payload_recv]; exact Entails.of_eq (landed m ρ n c fd))

section Steps
variable {A : Type} {Q : A → sProp (MT nD τ sig Unit (Elt F) ℕ UU ℕ)} {k : PUnit → Prog (TpuEff nD τ sig (Elt F) Λ₀ .tc) A}
variable {c : Dev nD} {K : Dev nD × CI → ℕ} {e b : ℕ} {R : sProp (MT nD τ sig Unit (Elt F) ℕ UU ℕ)}

/-- Starting transfer `n`: the source piece is handed in, the rest of the state carries on. -/
theorem step_send (n : Tx) (he : e ≤ n.val) {c' : Dev nD} (hc : c' = nb n c)
    {src dst : Memref sig .tc .vmem S256x2048 .bf16} (hs : src = pieceM (sp n)) (hd : dst = pieceM (dp n))
    {sS sR : SemLoc sig} (hS : sS = osem (sI n)) (hR : sR = osem (rI n))
    {hsc : (dst : Memref sig (Dev.tc c' : Thread nD τ).2.kind .vmem S256x2048 .bf16).view.ref.isScScratch = false}
    {hsrc : src.view.WordExact} {hdst : (dst : Memref sig (Dev.tc c' : Thread nD τ).2.kind .vmem S256x2048 .bf16).view.WordExact}
    {hsem : DmaTarget.Typed .vmem sR (.remote (Dev.tc c' : Thread nD τ) dst sS hsc)}
    (h : St m ρ c K (n.val + 1) e b R ⊢ run c (k ⟨⟩) Q) :
    St m ρ c K n.val e b iprop(sendPay m ρ c n ∗ R)
      ⊢ run c (.op (.enqueueDma src (.remote (Dev.tc c' : Thread nD τ) dst sS hsc) sR hsrc hdst hsem) k) Q := by
  subst hc hs hd hS hR
  unfold St
  iintro ⟨#Hrec, #Hlev, ⟨%W, HO⟩, Hout, Hin, Hsrc, HR⟩
  ihave Ht := (turn_start m ρ c n e he) $$ Hout
  icases Ht with ⟨Htodo, Hback⟩
  unfold todo hole
  icases Htodo with ⟨⟨%fd, Hdst⟩, HtS, HtR, Hat⟩
  iapply (wp_transfer m ρ c K n fd W) $$ [HO Hsrc Hdst HtS HtR]
  · isplitr; · iapply (inv_at m ρ K (c, .inr (sI n))); iexact Hrec
    isplitr; · iapply (inv_at m ρ K (nb n c, .inr (rI n))); iexact Hrec
    isplitl [Hsrc]; · iexact Hsrc
    isplitl [Hdst]; · iexact Hdst
    isplitl [HO]; · iexact HO
    isplitl [HtS]; · iexact HtS
    isplitr; · iapply (reached_at m ρ K (c, .inr (sI n))); iexact Hrec
    isplitl [HtR]; · iexact HtR
    iapply (reached_at m ρ K (nb n c, .inr (rI n))); iexact Hrec
  iintro ⟨HcS, HO⟩
  iapply h
  unfold St
  isplitr; · iexact Hrec
  isplitr; · iexact Hlev
  isplitl [HO]; · iexists W; iexact HO
  isplitl [Hback HcS Hat]
  · iapply Hback
    unfold away
    isplitl [HcS] <;> iassumption
  isplitl [Hin] <;> iassumption

/-- Waiting for arrival `n`: its piece, in two shares, and its semaphore back at zero. -/
theorem step_recv (n : Tx) {a : ℕ} (ha : n.val / 4 < a / 4 ∨ 30 ≤ a)
    {src dst : Memref sig .tc .vmem S256x2048 .bf16} (hd : dst = pieceM (dp n)) {sR : DmaSem sig} (hR : sR = xsem (rI n))
    {h₁ : src.view.WordExact} {h₂ : dst.view.WordExact}
    (h : St m ρ c K a e (n.val + 1) iprop((if fwd n then piece c (dp n) fullShare.right (gath m ρ c) else iprop(emp)) ∗ R) ⊢ run c (k ⟨⟩) Q) :
    St m ρ c K a e n.val R ⊢ run c (.op (.waitDma2 sR src dst h₁ h₂) k) Q := by
  subst hd hR
  unfold St
  iintro ⟨#Hrec, #Hlev, ⟨%W, HO⟩, Hout, Hin, HR⟩
  ihave Ht := (turn_here m ρ c n) $$ Hin
  icases Ht with ⟨Hdue, Hback⟩
  unfold due
  icases Hdue with ⟨Hc, Hat⟩
  iapply (Rounds.wp_wait_rest_token 𝒱₀ ER (rd m ρ) (c : Thread nD τ) none (κ := K (c, .inr (rI n)))
      (wpE_waitDma2_eq 𝒱₀ (c : Thread nD τ) none Set.univ) (Set.mem_univ _) () (O := Ow c a) (W := W) (R := 0) (m := 0) (T := ∅)
      (by rw [Nat.zero_add, expect_recv])) $$ [Hc HO Hat]
  · isplitr; · iapply (inv_at m ρ K (c, .inr (rI n))); iexact Hrec
    isplitl [Hc]; · iexact Hc
    isplitl [HO]; · iexact HO
    isplitr; · iapply (mayWait_recv c n a ha); iexact Hlev
    iexact Hat
  iintro ⟨HO, Hat, -, Hpay⟩
  ihave Hp := (Entails.of_eq (rest_recv m ρ c n)) $$ Hpay
  imod (Rounds.cell_close ER (rd m ρ) (Set.mem_univ (K (c, .inr (rI n)))) (fun h => h) (R := 0 + 1) (duties_later m ρ (recvCell c n))) $$ [Hat] with Hz
  · isplitr; · iapply (inv_at m ρ K (c, .inr (rI n))); iexact Hrec
    iexact Hat
  unfold recvPay
  ihave Hp2 := (piece_share c (dp n) fullShare (gath m ρ c)).1 $$ Hp
  icases Hp2 with ⟨Hl, Hr⟩
  iapply h
  unfold St
  isplitr; · iexact Hrec
  isplitr; · iexact Hlev
  isplitl [HO]; · iexists _; iexact HO
  isplitl [Hout]; · iexact Hout
  unfold here
  by_cases hf : fwd n
  · rw [if_pos hf, if_pos hf]
    isplitl [Hback Hz Hl]
    · iapply Hback
      isplitl [Hz]; · iexact Hz
      isplitl [Hl]; · iexact Hl
      iempintro
    isplitl [Hr] <;> iassumption
  · rw [if_neg hf, if_neg hf]
    isplitl [Hback Hz Hl Hr]
    · iapply Hback
      isplitl [Hz]; · iexact Hz
      isplitl [Hl]; · iexact Hl
      iexact Hr
    isplitr; · iempintro
    iexact HR

/-- Waiting for an arrival that is sent on as transfer `n'`: what that reads is at hand. -/
theorem step_recv_fwd (n n' : Tx) (hf : fwd n) (hn : sp n' = dp n) (hn' : shr n' = fullShare.right) {a : ℕ} (ha : n.val / 4 < a / 4 ∨ 30 ≤ a)
    {src dst : Memref sig .tc .vmem S256x2048 .bf16} (hd : dst = pieceM (dp n)) {sR : DmaSem sig} (hR : sR = xsem (rI n))
    {h₁ : src.view.WordExact} {h₂ : dst.view.WordExact}
    (h : St m ρ c K a e (n.val + 1) iprop(sendPay m ρ c n' ∗ R) ⊢ run c (k ⟨⟩) Q) :
    St m ρ c K a e n.val R ⊢ run c (.op (.waitDma2 sR src dst h₁ h₂) k) Q := by
  refine step_recv m ρ n ha hd hR ?_
  rw [if_pos hf]
  unfold sendPay at h
  rw [hn, hn'] at h
  exact h

/-- Waiting for an arrival that is kept. -/
theorem step_recv_keep (n : Tx) (hf : ¬ fwd n) {a : ℕ} (ha : n.val / 4 < a / 4 ∨ 30 ≤ a)
    {src dst : Memref sig .tc .vmem S256x2048 .bf16} (hd : dst = pieceM (dp n)) {sR : DmaSem sig} (hR : sR = xsem (rI n))
    {h₁ : src.view.WordExact} {h₂ : dst.view.WordExact}
    (h : St m ρ c K a e (n.val + 1) R ⊢ run c (k ⟨⟩) Q) :
    St m ρ c K a e n.val R ⊢ run c (.op (.waitDma2 sR src dst h₁ h₂) k) Q := by
  refine step_recv m ρ n ha hd hR ?_
  rw [if_neg hf]
  refine (St_mono m ρ c K a e (n.val + 1) ?_).trans h
  iintro ⟨-, H⟩; iexact H

/-- Waiting for transfer `n` to have left, all transfers being started. -/
theorem step_wait (n : Tx) {src dst : Memref sig .tc .vmem S256x2048 .bf16} {q : Fin 32} (hd : dst = pieceM q)
    {sS : DmaSem sig} (hS : sS = xsem (sI n)) {h₁ : src.view.WordExact} {h₂ : dst.view.WordExact}
    (h : St m ρ c K 30 (n.val + 1) b R ⊢ run c (k ⟨⟩) Q) :
    St m ρ c K 30 n.val b R ⊢ run c (.op (.waitDma2 sS src dst h₁ h₂) k) Q := by
  subst hd hS
  unfold St
  iintro ⟨#Hrec, #Hlev, ⟨%W, HO⟩, Hout, Hin, HR⟩
  ihave Ht := (turn_done m ρ c n) $$ Hout
  icases Ht with ⟨Haway, Hback⟩
  unfold away
  icases Haway with ⟨Hc, Hat⟩
  iapply (Rounds.wp_wait_rest_token 𝒱₀ ER (rd m ρ) (c : Thread nD τ) none (κ := K (c, .inr (sI n)))
      (wpE_waitDma2_eq 𝒱₀ (c : Thread nD τ) none Set.univ) (Set.mem_univ _) () (O := Ow c 30) (W := W) (R := 0) (m := 0) (T := ∅)
      (by rw [Nat.zero_add, expect_send])) $$ [Hc HO Hat]
  · isplitr; · iapply (inv_at m ρ K (c, .inr (sI n))); iexact Hrec
    isplitl [Hc]; · iexact Hc
    isplitl [HO]; · iexact HO
    isplitr; · iapply (mayWait_send c n); iexact Hlev
    iexact Hat
  iintro ⟨HO, Hat, -, Hpay⟩
  ihave Hp := (Entails.of_eq (rest_send m ρ c n)) $$ Hpay
  imod (Rounds.cell_close ER (rd m ρ) (Set.mem_univ (K (c, .inr (sI n)))) (fun h => h) (R := 0 + 1) (duties_later m ρ (sendCell c n))) $$ [Hat] with Hz
  · isplitr; · iapply (inv_at m ρ K (c, .inr (sI n))); iexact Hrec
    iexact Hat
  iapply h
  unfold St
  isplitr; · iexact Hrec
  isplitr; · iexact Hlev
  isplitl [HO]; · iexists _; iexact HO
  isplitl [Hback Hz Hp]
  · iapply Hback
    unfold done
    isplitl [Hz] <;> iassumption
  isplitl [Hin] <;> iassumption

end Steps

end Cert.RingProof

end
-- ==== Proof.Local.lean ====
/-
# Loads and stores

The loads and stores of a device's own buffers. Each theorem takes what the operation touches out of what is carried
along and says what is there afterwards.
-/
module

public import proofs.«01_k».proof.Proof.Moves

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (m : (ℓ : Loc nD τ sig) → Buf (Elt F) ℓ) (ρ : Dev nD → PrngReg)

section Ops
variable {A : Type} {Q : A → sProp (MT nD τ sig Unit (Elt F) ℕ UU ℕ)} (c : Dev nD)

/-- An operation on a part `P` of what is carried along. -/
theorem step_part {K : Dev nD × CI → ℕ} {a e b : ℕ} {R R' P P' : sProp (MT nD τ sig Unit (Elt F) ℕ UU ℕ)}
    {prog prog' : Prog (TpuEff nD τ sig (Elt F) Λ₀ .tc) A}
    (hR : R ⊢ iprop(P ∗ (P' -∗ R'))) (hop : P ⊢ iprop((P' -∗ run c prog' Q) -∗ run c prog Q))
    (h : St m ρ c K a e b R' ⊢ run c prog' Q) : St m ρ c K a e b R ⊢ run c prog Q := by
  unfold St at h ⊢
  iintro ⟨H1, H2, H3, H4, H5, HR⟩
  ihave H := hR $$ HR
  icases H with ⟨HP, Hback⟩
  iapply hop $$ HP
  iintro HP
  iapply h
  isplitl [H1]; · iexact H1
  isplitl [H2]; · iexact H2
  isplitl [H3]; · iexact H3
  isplitl [H4]; · iexact H4
  isplitl [H5]; · iexact H5
  iapply Hback; iexact HP

theorem off_zero : (![0, 0] : Fin 2 → ℕ) = fun _ => 0 := by funext i; fin_cases i <;> rfl

/-! ### `x` and `w_mat` -/

theorem op_x (b : Fin 2) {hl} {k : Vec F S256x2048 .bf16 → Prog (TpuEff nD τ sig (Elt F) Λ₀ .tc) A} :
    xPts m ρ c ⊢ iprop((xPts m ρ c -∗ run c (k (halfV m ρ c b)) Q) -∗ run c (.op (.load xM (halfR b).toLoadRect hl) k) Q) := by
  unfold xPts
  exact wp_load_rect 𝒱₀ (c : Thread nD τ) none Set.univ (m := xM) (r := halfR b) (Finset.subset_univ _)

abbrev wholeW : Rect S4096x128 := Rect.unit (s := S4096x128) ![0, 0] S4096x128.size inb_S4096x128_S4096x128_0_0

theorem op_w {hl} {k : Vec F S4096x128 .bf16 → Prog (TpuEff nD τ sig (Elt F) Λ₀ .tc) A} :
    wPts m ρ c ⊢ iprop((wPts m ρ c -∗ run c (k (wstg m ρ c)) Q) -∗ run c (.op (.load wM wholeW.toLoadRect hl) k) Q) := by
  unfold wPts
  have e : (wM.access wholeW).read (Elt F) (wstg m ρ c) = wstg m ρ c := Memref.readAt_unit_zero (Elt F) cc0_stg1_0 off_zero _ _
  have h : (((c : Thread nD τ).loc cc0_stg1_0) ↦{fullShare} wstg m ρ c : sProp 𝕄)
      ⊢ iprop(((((c : Thread nD τ).loc cc0_stg1_0) ↦{fullShare} wstg m ρ c) -∗ run c (k ((wM.access wholeW).read (Elt F) (wstg m ρ c))) Q)
        -∗ run c (.op (.load wM wholeW.toLoadRect hl) k) Q) :=
    wp_load_rect 𝒱₀ (c : Thread nD τ) none Set.univ (m := wM) (r := wholeW) (Finset.subset_univ _)
  rw [e] at h
  exact h

theorem op_v (f : Buf (Elt F) ((c : Thread nD τ).loc cc0_scratch1)) {hl} {k : Vec F S4096x128 .bf16 → Prog (TpuEff nD τ sig (Elt F) Λ₀ .tc) A} :
    vPts c f ⊢ iprop((vPts c f -∗ run c (k f) Q) -∗ run c (.op (.load vM wholeW.toLoadRect hl) k) Q) := by
  unfold vPts
  have e : (vM.access wholeW).read (Elt F) f = f := Memref.readAt_unit_zero (Elt F) cc0_scratch1 off_zero _ _
  have h : (((c : Thread nD τ).loc cc0_scratch1) ↦{fullShare} f : sProp 𝕄)
      ⊢ iprop(((((c : Thread nD τ).loc cc0_scratch1) ↦{fullShare} f) -∗ run c (k ((vM.access wholeW).read (Elt F) f)) Q)
        -∗ run c (.op (.load vM wholeW.toLoadRect hl) k) Q) :=
    wp_load_rect 𝒱₀ (c : Thread nD τ) none Set.univ (m := vM) (r := wholeW) (Finset.subset_univ _)
  rw [e] at h
  exact h

theorem op_v_store (f : Buf (Elt F) ((c : Thread nD τ).loc cc0_scratch1)) (w : Vec F S4096x128 .bf16) {hs hm} {k : PUnit → Prog (TpuEff nD τ sig (Elt F) Λ₀ .tc) A} :
    vPts c f ⊢ iprop((vPts c w -∗ run c (k ⟨⟩) Q) -∗ run c (.op (.store vM wholeW w Finset.univ hs hm) k) Q) := by
  unfold vPts
  have e : (vM.access wholeW).write (Elt F) f w Finset.univ = w := Memref.write_access_unit_zero_univ (Elt F) cc0_scratch1 off_zero _ f w
  have h : (((c : Thread nD τ).loc cc0_scratch1) ↦{fullShare} f : sProp 𝕄)
      ⊢ iprop(((((c : Thread nD τ).loc cc0_scratch1) ↦{fullShare} ((vM.access wholeW).write (Elt F) f w Finset.univ)) -∗ run c (k ⟨⟩) Q)
        -∗ run c (.op (.store vM wholeW w Finset.univ hs hm) k) Q) :=
    wp_store 𝒱₀ (c : Thread nD τ) none Set.univ (m := vM) (r := wholeW) (Mk := Finset.univ) (Finset.subset_univ _)
  rw [e] at h
  exact h

/-! ### The slots -/

theorem op_slot (j : Fin 16) (sh : PosShare TreeShare) {hl} {k : Vec F S1x256x4096 .bf16 → Prog (TpuEff nD τ sig (Elt F) Λ₀ .tc) A} :
    iprop(piece c (lo j) sh (gath m ρ c) ∗ piece c (hi j) sh (gath m ρ c))
      ⊢ iprop(((piece c (lo j) sh (gath m ρ c) ∗ piece c (hi j) sh (gath m ρ c)) -∗ run c (k (slotV m ρ c j)) Q)
        -∗ run c (.op (.load gM (slotR j).toLoadRect hl) k) Q) := by
  unfold piece
  have hj := pointsTo_union (Ix := Unit) (Name := ℕ) (U := UU) (Lvl := ℕ) (ℓ := (c : Thread nD τ).loc cc0_scratch0) (q := sh) (f := gath m ρ c)
    (pieces_disjoint (lo j) (hi j) (lo_ne_hi j))
  have h : (((c : Thread nD τ).loc cc0_scratch0) ↦[(pieceR (lo j)).set ∪ (pieceR (hi j)).set]{sh} gath m ρ c : sProp 𝕄)
      ⊢ iprop(((((c : Thread nD τ).loc cc0_scratch0) ↦[(pieceR (lo j)).set ∪ (pieceR (hi j)).set]{sh} gath m ρ c) -∗ run c (k (slotV m ρ c j)) Q)
        -∗ run c (.op (.load gM (slotR j).toLoadRect hl) k) Q) :=
    wp_load_rect 𝒱₀ (c : Thread nD τ) none Set.univ (m := gM) (r := slotR j) (slot_set j)
  refine hj.2.trans (h.trans ?_)
  iintro H Hk
  iapply H
  iintro H
  iapply Hk
  iapply hj.1
  iexact H

/-- A piece the device is about to overwrite may be read first: some value comes of it. -/
theorem op_own_load (b : Fin 2) (f : Buf (Elt F) ((c : Thread nD τ).loc cc0_scratch0)) {hl} {k : Vec F S1x256x2048 .bf16 → Prog (TpuEff nD τ sig (Elt F) Λ₀ .tc) A} :
    piece c (own b) fullShare f ⊢ iprop((piece c (own b) fullShare f -∗ run c (k ((gM.access (pieceR (own b))).read (Elt F) f)) Q)
      -∗ run c (.op (.load gM (pieceR (own b)).toLoadRect hl) k) Q) := by
  unfold piece
  exact wp_load_rect 𝒱₀ (c : Thread nD τ) none Set.univ (m := gM) (r := pieceR (own b)) (by rw [own_set])

theorem op_own_store (b : Fin 2) (f : Buf (Elt F) ((c : Thread nD τ).loc cc0_scratch0)) (v : Vec F S1x256x2048 .bf16)
    (hv : v = shapeCast S1x256x2048 (halfV m ρ c b) shapeCasts_S256x2048_S1x256x2048) {hs hm} {k : PUnit → Prog (TpuEff nD τ sig (Elt F) Λ₀ .tc) A} :
    piece c (own b) fullShare f ⊢ iprop((piece c (own b) fullShare (gath m ρ c) -∗ run c (k ⟨⟩) Q)
      -∗ run c (.op (.store gM (pieceR (own b)) v Finset.univ hs hm) k) Q) := by
  rw [← piece_congr c (own b) fullShare (own_write m ρ c b v hv f)]
  unfold piece
  exact wp_store 𝒱₀ (c : Thread nD τ) none Set.univ (m := gM) (r := pieceR (own b)) (Mk := Finset.univ) (by
    rw [show (gM.access (pieceR (own b))).setOn Finset.univ = (gM.access (pieceR (own b))).set from rfl, own_set])

/-! ### The result -/

/-- Before a block of rows is stored the rows are read: some value comes of it. -/
theorem op_o_load (D : Finset (Dev nD)) {off : Fin S4096x128.rank → ℕ} {inb : ∀ a, off a + S256x128.size a ≤ S4096x128.size a} {hl}
    {k : Vec F S256x128 .f32 → Prog (TpuEff nD τ sig (Elt F) Λ₀ .tc) A} :
    oPts m ρ c D ⊢ iprop((∀ v, oPts m ρ c D -∗ run c (k v) Q)
      -∗ run c (.op (.load oM (Rect.unit (s := S4096x128) off S256x128.size inb).toLoadRect hl) k) Q) := by
  unfold oPts
  iintro ⟨%g, %hg, H⟩ Hk
  iapply (wp_load_rect 𝒱₀ (c : Thread nD τ) none Set.univ (m := oM)
    (r := Rect.unit (s := S4096x128) off S256x128.size inb) (q := fullShare) (f := g) (Finset.subset_univ _)) $$ H
  iintro H
  iapply Hk
  iexists g
  isplitr; · ipureintro; exact hg
  iexact H

/-- A block of rows is stored: the rows of device `d` are right as well. -/
theorem op_o_store (D : Finset (Dev nD)) (d : Dev nD) {off : Fin S4096x128.rank → ℕ} (hoff : off = ![256 * d.val, 0])
    {inb : ∀ a, off a + S256x128.size a ≤ S4096x128.size a} {v : Vec F S256x128 .f32} (hv : v = rows (xstg m ρ d) (wstg m ρ c)) {hs hm}
    {k : PUnit → Prog (TpuEff nD τ sig (Elt F) Λ₀ .tc) A} :
    oPts m ρ c D ⊢ iprop((oPts m ρ c (insert d D) -∗ run c (k ⟨⟩) Q)
      -∗ run c (.op (.store oM (Rect.unit (s := S4096x128) off S256x128.size inb) v Finset.univ hs hm) k) Q) := by
  subst hv
  unfold oPts
  iintro ⟨%g, %hg, H⟩ Hk
  iapply (wp_store 𝒱₀ (c : Thread nD τ) none Set.univ (m := oM)
    (r := Rect.unit (s := S4096x128) off S256x128.size inb) (f := g) (w := rows (xstg m ρ d) (wstg m ρ c)) (Mk := Finset.univ) (Finset.subset_univ _)) $$ H
  iintro H
  iapply Hk
  iexists _
  isplitr
  · ipureintro
    intro i d' hd' hi
    exact (put_rows m ρ c d off hoff inb g i).trans (by
      by_cases h : (i 0).val / 256 = d.val
      · rw [if_pos h]
      · rw [if_neg h]
        rcases Finset.mem_insert.mp hd' with rfl | hd'
        · exact absurd hi h
        · exact hg i d' hd' hi)
  iexact H

end Ops

end Cert.RingProof

end
-- ==== Proof.Steps.lean ====
/-
# The loads and stores in the course of the run

What each of the kernel's loads and stores does to the whole state: the device's own block going into its slot, the copy
of `w_mat`, and for each product the three loads and the store.
-/
module

public import proofs.«01_k».proof.Proof.Local

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

variable (m : (ℓ : Loc nD τ sig) → Buf (Elt F) ℓ) (ρ : Dev nD → PrngReg)

/-! ## Parts of what is carried along -/

/-- The copy of `w_mat` and the result can be taken out and put back. -/
theorem Rest_v (c : Dev nD) (t : ℕ) : Rest m ρ c t ⊢ iprop(vPts c (wstg m ρ c) ∗ (vPts c (wstg m ρ c) -∗ Rest m ρ c t)) := by
  unfold Rest
  iintro ⟨H1, H2, H3, H4, H5, H6, H7⟩
  isplitl [H5]; · iexact H5
  iintro H5
  isplitl [H1]; · iexact H1
  isplitl [H2]; · iexact H2
  isplitl [H3]; · iexact H3
  isplitl [H4]; · iexact H4
  isplitl [H5]; · iexact H5
  isplitl [H6] <;> iassumption
theorem Rest_o (c : Dev nD) (t t' : ℕ) : Rest m ρ c t ⊢ iprop(oPts m ρ c (got c t) ∗ (oPts m ρ c (got c t') -∗ Rest m ρ c t')) := by
  unfold Rest
  iintro ⟨H1, H2, H3, H4, H5, H6, H7⟩
  isplitl [H6]; · iexact H6
  iintro H6
  isplitl [H1]; · iexact H1
  isplitl [H2]; · iexact H2
  isplitl [H3]; · iexact H3
  isplitl [H4]; · iexact H4
  isplitl [H5]; · iexact H5
  isplitl [H6] <;> iassumption
/-- So can the device's own block. -/
theorem Rest_mine (c : Dev nD) (t : ℕ) : Rest m ρ c t ⊢ iprop((mine m ρ c 0 ∗ mine m ρ c 1) ∗ ((mine m ρ c 0 ∗ mine m ρ c 1) -∗ Rest m ρ c t)) := by
  unfold Rest
  iintro ⟨H1, H2, HR⟩
  isplitl [H1 H2]; · isplitl [H1] <;> iassumption
  iintro ⟨H1, H2⟩
  isplitl [H1]; · iexact H1
  isplitl [H2] <;> iassumption

/-- Two entries of a family, to be put back. -/
theorem bigSep_look (n₁ n₂ : Tx) (hne : n₁ ≠ n₂) (Φ : Tx → sProp 𝕄) :
    bigSep Finset.univ Φ ⊢ iprop(Φ n₁ ∗ Φ n₂ ∗ ((Φ n₁ ∗ Φ n₂) -∗ bigSep Finset.univ Φ)) := by
  rw [sep_erase (Finset.mem_univ n₁) Φ, sep_erase (Finset.mem_erase.mpr ⟨hne.symm, Finset.mem_univ n₂⟩) Φ]
  iintro ⟨H1, H2, HR⟩
  isplitl [H1]; · iexact H1
  isplitl [H2]; · iexact H2
  iintro ⟨H1, H2⟩
  isplitl [H1]; · iexact H1
  isplitl [H2] <;> iassumption

section Steps
variable {A : Type} {Q : A → sProp (MT nD τ sig Unit (Elt F) ℕ UU ℕ)} {c : Dev nD} {K : Dev nD × CI → ℕ} {a e b : ℕ}
variable {R : sProp (MT nD τ sig Unit (Elt F) ℕ UU ℕ)}

/-- Reading a slot both of whose halves have arrived. -/
theorem step_slot (j : Fin 16) (n₁ n₂ : Tx) (h₁ : n₁.val < b) (h₂ : n₂.val < b) (d₁ : dp n₁ = lo j) (d₂ : dp n₂ = hi j)
    {hl} {k : Vec F S1x256x4096 .bf16 → Prog (TpuEff nD τ sig (Elt F) Λ₀ .tc) A}
    (h : St m ρ c K a e b R ⊢ run c (k (slotV m ρ c j)) Q) :
    St m ρ c K a e b R ⊢ run c (.op (.load gM (slotR j).toLoadRect hl) k) Q := by
  have hne : n₁ ≠ n₂ := fun h => lo_ne_hi j (by rw [← d₁, ← d₂, h])
  have hlook := bigSep_look n₁ n₂ hne (inSt m ρ c b)
  rw [show inSt m ρ c b n₁ = here m ρ c n₁ from if_pos h₁, show inSt m ρ c b n₂ = here m ρ c n₂ from if_pos h₂] at hlook
  unfold here at hlook
  rw [d₁, d₂] at hlook
  unfold St at h ⊢
  iintro ⟨H1, H2, H3, H4, H5, HR⟩
  ihave H5' := hlook $$ H5
  icases H5' with ⟨⟨Hz1, Hp1, Hx1⟩, ⟨Hz2, Hp2, Hx2⟩, Hback⟩
  iapply (op_slot m ρ c j fullShare.left (k := k)) $$ [Hp1 Hp2]
  · isplitl [Hp1] <;> iassumption
  iintro ⟨Hp1, Hp2⟩
  iapply h
  isplitl [H1]; · iexact H1
  isplitl [H2]; · iexact H2
  isplitl [H3]; · iexact H3
  isplitl [H4]; · iexact H4
  isplitr [HR]
  · iapply Hback
    isplitl [Hz1 Hp1 Hx1]
    · isplitl [Hz1]; · iexact Hz1
      isplitl [Hp1] <;> iassumption
    · isplitl [Hz2]; · iexact Hz2
      isplitl [Hp2] <;> iassumption
  iexact HR

/-- Reading slot 15, the device's own. -/
theorem step_slot_own (t : ℕ) {hl} {k : Vec F S1x256x4096 .bf16 → Prog (TpuEff nD τ sig (Elt F) Λ₀ .tc) A}
    (h : St m ρ c K a e b (Rest m ρ c t) ⊢ run c (k (slotV m ρ c 15)) Q) :
    St m ρ c K a e b (Rest m ρ c t) ⊢ run c (.op (.load gM (slotR 15).toLoadRect hl) k) Q :=
  step_part m ρ c (Rest_mine m ρ c t) (op_slot m ρ c 15 fullShare.left.left) h

/-- Reading the copy of `w_mat`. -/
theorem step_v (t : ℕ) {hl} {k : Vec F S4096x128 .bf16 → Prog (TpuEff nD τ sig (Elt F) Λ₀ .tc) A}
    (h : St m ρ c K a e b (Rest m ρ c t) ⊢ run c (k (wstg m ρ c)) Q) :
    St m ρ c K a e b (Rest m ρ c t) ⊢ run c (.op (.load vM wholeW.toLoadRect hl) k) Q :=
  step_part m ρ c (Rest_v m ρ c t) (op_v c (wstg m ρ c)) h

/-- Reading rows of the result before they are stored. -/
theorem step_o_load (t : ℕ) {off : Fin S4096x128.rank → ℕ} {inb : ∀ a, off a + S256x128.size a ≤ S4096x128.size a} {hl}
    {k : Vec F S256x128 .f32 → Prog (TpuEff nD τ sig (Elt F) Λ₀ .tc) A}
    (h : ∀ v, St m ρ c K a e b (Rest m ρ c t) ⊢ run c (k v) Q) :
    St m ρ c K a e b (Rest m ρ c t) ⊢ run c (.op (.load oM (Rect.unit (s := S4096x128) off S256x128.size inb).toLoadRect hl) k) Q := by
  have hR := Rest_o m ρ c t t
  have h' : ∀ v, iprop(records m ρ K ∗ levAts L lv ∗ (∃ W, owes (c : Thread nD τ) (Ow c a) W)
    ∗ bigSep Finset.univ (outSt m ρ c a e) ∗ bigSep Finset.univ (inSt m ρ c b) ∗ Rest m ρ c t) ⊢ run c (k v) Q := h
  unfold St
  iintro ⟨H1, H2, H3, H4, H5, HR⟩
  ihave H := hR $$ HR
  icases H with ⟨HP, Hback⟩
  iapply (op_o_load m ρ c (got c t) (k := k)) $$ HP
  iintro %v HP
  iapply (h' v)
  isplitl [H1]; · iexact H1
  isplitl [H2]; · iexact H2
  isplitl [H3]; · iexact H3
  isplitl [H4]; · iexact H4
  isplitl [H5]; · iexact H5
  iapply Hback; iexact HP

/-- Storing the `t`-th product. -/
theorem step_put (t : Fin 16) {off : Fin S4096x128.rank → ℕ} (hoff : off = ![256 * (org c (slotAt t).val).val, 0])
    {inb : ∀ a, off a + S256x128.size a ≤ S4096x128.size a} {v : Vec F S256x128 .f32}
    (hv : v = rows (xstg m ρ (org c (slotAt t).val)) (wstg m ρ c)) {hs hm} {k : PUnit → Prog (TpuEff nD τ sig (Elt F) Λ₀ .tc) A}
    (h : St m ρ c K a e b (Rest m ρ c (t.val + 1)) ⊢ run c (k ⟨⟩) Q) :
    St m ρ c K a e b (Rest m ρ c t.val) ⊢ run c (.op (.store oM (Rect.unit (s := S4096x128) off S256x128.size inb) v Finset.univ hs hm) k) Q := by
  refine step_part m ρ c (Rest_o m ρ c t.val (t.val + 1)) ?_ h
  rw [← got_succ]
  exact op_o_store m ρ c (got c t.val) (org c (slotAt t).val) hoff hv

/-! ## The first stretch -/

/-- Reading a half of the device's block of `x`. -/
theorem step_x (half : Fin 2) (hR : R ⊢ iprop(xPts m ρ c ∗ (xPts m ρ c -∗ R))) {hl} {k : Vec F S256x2048 .bf16 → Prog (TpuEff nD τ sig (Elt F) Λ₀ .tc) A}
    (h : St m ρ c K a e b R ⊢ run c (k (halfV m ρ c half)) Q) :
    St m ρ c K a e b R ⊢ run c (.op (.load xM (halfR half).toLoadRect hl) k) Q :=
  step_part m ρ c hR (op_x m ρ c half) h

end Steps

/-- A half just stored is shared out: one share to be sent either way and one to be kept. -/
theorem mine_split (c : Dev nD) (half : Fin 2) :
    piece c (own half) fullShare (gath m ρ c)
      ⊢ iprop(piece c (own half) fullShare.right (gath m ρ c) ∗ piece c (own half) fullShare.left.right (gath m ρ c) ∗ mine m ρ c half) := by
  unfold mine
  iintro H
  ihave H' := (piece_share c (own half) fullShare (gath m ρ c)).1 $$ H
  icases H' with ⟨Hl, Hr⟩
  ihave H' := (piece_share c (own half) fullShare.left (gath m ρ c)).1 $$ Hl
  icases H' with ⟨Hll, Hlr⟩
  isplitl [Hr]; · iexact Hr
  isplitl [Hlr] <;> iassumption

theorem mine_join (c : Dev nD) (half : Fin 2) :
    iprop(piece c (own half) fullShare.right (gath m ρ c) ∗ piece c (own half) fullShare.left.right (gath m ρ c) ∗ mine m ρ c half)
      ⊢ piece c (own half) fullShare (gath m ρ c) := by
  unfold mine
  iintro ⟨Hr, Hlr, Hll⟩
  iapply (piece_share c (own half) fullShare (gath m ρ c)).2
  isplitr [Hr]
  · iapply (piece_share c (own half) fullShare.left (gath m ρ c)).2
    isplitl [Hll] <;> iassumption
  iexact Hr

section First
variable {A : Type} {Q : A → sProp (MT nD τ sig Unit (Elt F) ℕ UU ℕ)} {c : Dev nD} {K : Dev nD × CI → ℕ} {a e b : ℕ}

/-- Reading a piece of slot 15 before it is stored. -/
theorem step_own_load (half : Fin 2) {R : sProp (MT nD τ sig Unit (Elt F) ℕ UU ℕ)}
    (hR : R ⊢ iprop((∃ f, piece (F := F) c (own half) fullShare f) ∗ ((∃ f, piece (F := F) c (own half) fullShare f) -∗ R)))
    {hl} {k : Vec F S1x256x2048 .bf16 → Prog (TpuEff nD τ sig (Elt F) Λ₀ .tc) A}
    (h : ∀ v, St m ρ c K a e b R ⊢ run c (k v) Q) :
    St m ρ c K a e b R ⊢ run c (.op (.load gM (pieceR (own half)).toLoadRect hl) k) Q := by
  have h' : ∀ v, iprop(records m ρ K ∗ levAts L lv ∗ (∃ W, owes (c : Thread nD τ) (Ow c a) W)
    ∗ bigSep Finset.univ (outSt m ρ c a e) ∗ bigSep Finset.univ (inSt m ρ c b) ∗ R) ⊢ run c (k v) Q := h
  unfold St
  iintro ⟨H1, H2, H3, H4, H5, HR⟩
  ihave H := hR $$ HR
  icases H with ⟨⟨%f, HP⟩, Hback⟩
  iapply (op_own_load c half f (k := k)) $$ HP
  iintro HP
  iapply (h' _)
  isplitl [H1]; · iexact H1
  isplitl [H2]; · iexact H2
  isplitl [H3]; · iexact H3
  isplitl [H4]; · iexact H4
  isplitl [H5]; · iexact H5
  iapply Hback; iexists f; iexact HP

/-- Storing a half of the device's block into its piece. -/
theorem step_own_store (half : Fin 2) {v : Vec F S1x256x2048 .bf16} (hv : v = shapeCast S1x256x2048 (halfV m ρ c half) shapeCasts_S256x2048_S1x256x2048)
    {R R' : sProp (MT nD τ sig Unit (Elt F) ℕ UU ℕ)}
    (hR : R ⊢ iprop((∃ f, piece (F := F) c (own half) fullShare f) ∗ (piece c (own half) fullShare (gath m ρ c) -∗ R')))
    {hs hm} {k : PUnit → Prog (TpuEff nD τ sig (Elt F) Λ₀ .tc) A}
    (h : St m ρ c K a e b R' ⊢ run c (k ⟨⟩) Q) :
    St m ρ c K a e b R ⊢ run c (.op (.store gM (pieceR (own half)) v Finset.univ hs hm) k) Q := by
  refine step_part m ρ c hR ?_ h
  iintro ⟨%f, H⟩
  iapply (op_own_store m ρ c half f v hv)
  iexact H

/-- Reading `w_mat`, reading what is in the copy's place, and making the copy. -/
theorem step_w {hl} {k : Vec F S4096x128 .bf16 → Prog (TpuEff nD τ sig (Elt F) Λ₀ .tc) A}
    (h : St m ρ c K a e b (Rest₂ m ρ c) ⊢ run c (k (wstg m ρ c)) Q) :
    St m ρ c K a e b (Rest₂ m ρ c) ⊢ run c (.op (.load wM wholeW.toLoadRect hl) k) Q := by
  refine step_part m ρ c ?_ (op_w m ρ c) h
  unfold Rest₂
  iintro ⟨H1, H2, H3, H4, HR⟩
  isplitl [H4]; · iexact H4
  iintro H4
  isplitl [H1]; · iexact H1
  isplitl [H2]; · iexact H2
  isplitl [H3]; · iexact H3
  isplitl [H4] <;> iassumption

theorem step_v_load {hl} {k : Vec F S4096x128 .bf16 → Prog (TpuEff nD τ sig (Elt F) Λ₀ .tc) A}
    (h : ∀ v, St m ρ c K a e b (Rest₂ m ρ c) ⊢ run c (k v) Q) :
    St m ρ c K a e b (Rest₂ m ρ c) ⊢ run c (.op (.load vM wholeW.toLoadRect hl) k) Q := by
  have h' : ∀ v, iprop(records m ρ K ∗ levAts L lv ∗ (∃ W, owes (c : Thread nD τ) (Ow c a) W)
    ∗ bigSep Finset.univ (outSt m ρ c a e) ∗ bigSep Finset.univ (inSt m ρ c b) ∗ Rest₂ m ρ c) ⊢ run c (k v) Q := h
  unfold St
  unfold Rest₂ at h' ⊢
  iintro ⟨H1, H2, H3, H4, H5, G1, G2, G3, G4, ⟨%f, G5⟩, G6⟩
  iapply (op_v c f (k := k)) $$ G5
  iintro G5
  iapply (h' f)
  isplitl [H1]; · iexact H1
  isplitl [H2]; · iexact H2
  isplitl [H3]; · iexact H3
  isplitl [H4]; · iexact H4
  isplitl [H5]; · iexact H5
  isplitl [G1]; · iexact G1
  isplitl [G2]; · iexact G2
  isplitl [G3]; · iexact G3
  isplitl [G4]; · iexact G4
  isplitl [G5]; · iexists f; iexact G5
  iexact G6

theorem step_v_store {w : Vec F S4096x128 .bf16} (hw : w = wstg m ρ c) {hs hm} {k : PUnit → Prog (TpuEff nD τ sig (Elt F) Λ₀ .tc) A}
    (h : St m ρ c K a e b (Rest m ρ c 0) ⊢ run c (k ⟨⟩) Q) :
    St m ρ c K a e b (Rest₂ m ρ c) ⊢ run c (.op (.store vM wholeW w Finset.univ hs hm) k) Q := by
  subst hw
  refine step_part m ρ c (P := iprop(∃ f, vPts (F := F) c f)) (P' := vPts c (wstg m ρ c)) ?_ ?_ h
  · unfold Rest₂ Rest
    iintro ⟨H1, H2, H3, H4, H5, H6⟩
    isplitl [H5]; · iexact H5
    iintro H5
    isplitl [H1]; · iexact H1
    isplitl [H2]; · iexact H2
    isplitl [H3]; · iexact H3
    isplitl [H4]; · iexact H4
    isplitl [H5] <;> iassumption
  · iintro ⟨%f, H⟩
    iapply (op_v_store c f (wstg m ρ c))
    iexact H

end First

end Cert.RingProof

end
-- ==== Proof.Start.lean ====
/-
# Up to the barrier

What a device holds when its kernel begins, and the first three operations: a signal to either neighbour, handing over
the pieces of the device's own buffer that the neighbour fills, and the wait for the neighbours' signals, which bring
the pieces of their buffers that this device fills.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- A transfer's tokens and the place at its sending semaphore: what `todo` holds beside the piece. -/
def toks (c : Dev nD) (n : Tx) : sProp 𝕄 :=
  iprop(dutyTok ER (sendCell c n) 0 false ∗ dutyTok ER (recvCell (nb n c) n) 0 false ∗ atPos ER (sendCell c n) 0 ∅ 0)

/-- The gathering buffer, with any contents. -/
def gAny (c : Dev nD) : sProp 𝕄 := iprop(∃ f : Buf (Elt F) ((c : Thread nD τ).loc cc0_scratch0), ((c : Thread nD τ).loc cc0_scratch0) ↦{fullShare} f)

/-- What the kernel of device `c` begins with. -/
def Begin (c : Dev nD) (K : Dev nD × CI → ℕ) : sProp 𝕄 :=
  iprop(records m ρ K ∗ levAts L lv ∗ (∃ W, owes (c : Thread nD τ) (O₀ c) W)
    ∗ (dutyTok ER (barCell (lt c)) 0 true ∗ dutyTok ER (barCell (rt c)) 0 false ∗ atPos ER (barCell c) 0 ∅ 0 ∗ cred (tallyAt (barCell c) () 2))
    ∗ bigSep Finset.univ (toks (F := F) c) ∗ bigSep Finset.univ (due (F := F) c) ∗ (bigSep idle fun i => atPos ER (xCell c i) 0 ∅ 0)
    ∗ gAny (F := F) c ∗ (∃ f, vPts (F := F) c f) ∗ xPts m ρ c ∗ wPts m ρ c ∗ oPts m ρ c (got c 0))

/-- The buffer falls into what the left neighbour fills, what the right one fills, and the device's own slot. -/
theorem gAny_split (c : Dev nD) : gAny (F := F) c
    ⊢ iprop(barPay (F := F) (lt c) true ∗ barPay (F := F) (rt c) false
      ∗ (∃ f, piece (F := F) c (own 0) fullShare f) ∗ (∃ f, piece (F := F) c (own 1) fullShare f)) := by
  have hk : ∀ (d : Bool) (c' : Dev nD) (hc : ∀ n ∈ side d, nb n c' = c) (f : Buf (Elt F) ((c : Thread nD τ).loc cc0_scratch0)),
      (bigSep (side d) fun n => piece (F := F) c (dp n) fullShare f) ⊢ barPay (F := F) c' d := fun d c' hc f => by
    unfold barPay
    refine bigSep_mono fun n hn => ?_
    unfold hole
    rw [hc n hn]
    show piece c (dp n) fullShare f ⊢ iprop(∃ f, piece (F := F) c (dp n) fullShare f)
    iintro H; iexists f; iexact H
  unfold gAny
  iintro ⟨%f, H⟩
  ihave H' := (Entails.of_eq ((gath_split c f).trans (by
    rw [show (Finset.univ : Finset (Fin 32)) = (side true).image dp ∪ ((side false).image dp ∪ {own 0, own 1}) by decide,
      sep_union (by decide), sep_union (by decide), sep_insert (by decide), bigSep_singleton,
      bigSep_image_of_injOn dp_injective.injOn, bigSep_image_of_injOn dp_injective.injOn]))) $$ H
  icases H' with ⟨Ht, Hf, H0, H1⟩
  isplitl [Ht]
  · iapply (hk true (lt c) (fun n hn => by
      have : n.val % 2 = 0 := (Finset.mem_filter.mp hn).2
      unfold nb; rw [if_pos this]; exact rt_lt c) f)
    iexact Ht
  isplitl [Hf]
  · iapply (hk false (rt c) (fun n hn => by
      have : n.val % 2 = 1 := (Finset.mem_filter.mp hn).2
      unfold nb; rw [if_neg (by omega)]; exact lt_rt c) f)
    iexact Hf
  isplitl [H0]; · iexists f; iexact H0
  iexists f; iexact H1

/-- The tokens and the holes together are the transfers yet to be started. -/
theorem todo_intro (c : Dev nD) : iprop(bigSep Finset.univ (toks (F := F) c) ∗ bigSep Finset.univ (hole (F := F) c)) ⊢ bigSep Finset.univ (outSt m ρ c 0 0) := by
  rw [← bigSep_sep']
  refine bigSep_mono fun n _ => ?_
  rw [show outSt m ρ c 0 0 n = todo c n from (if_neg (Nat.not_lt_zero _)).trans (if_neg (Nat.not_lt_zero _))]
  show iprop(toks (F := F) c n ∗ hole (F := F) c n) ⊢ todo c n
  unfold toks todo
  iintro ⟨⟨H1, H2, H3⟩, H4⟩
  isplitl [H4]; · iexact H4
  isplitl [H1]; · iexact H1
  isplitl [H2] <;> iassumption

theorem due_intro (c : Dev nD) : bigSep Finset.univ (due (F := F) c) ⊢ bigSep Finset.univ (inSt m ρ c 0) := by
  refine bigSep_mono fun n _ => ?_
  rw [show inSt m ρ c 0 n = due c n from if_neg (Nat.not_lt_zero _)]
  exact fun _ h => h

/-- An idle semaphore is closed as it is. -/
theorem idle_close (c : Dev nD) (K : Dev nD × CI → ℕ) (E : Set ℕ) (hE : ∀ i, K (c, .inr i) ∈ E) :
    iprop(records m ρ K ∗ bigSep idle fun i => atPos ER (xCell c i) 0 ∅ 0) ⊢ (|={E}=> bigSep idle fun i => semVal (xCell c i) 0 : sProp 𝕄) := by
  have h1 : ∀ i ∈ idle, iprop(records m ρ K ∗ atPos ER (xCell c i) 0 ∅ 0) ⊢ (|={E}=> semVal (xCell c i) 0 : sProp 𝕄) := fun i hi => by
    iintro ⟨#H, Hat⟩
    iapply (Rounds.cell_close ER (rd m ρ) (hE i) (fun h => h) (R := 0) (duties_idle m ρ c i hi))
    isplitr; · iapply (inv_at m ρ K (c, .inr i)); iexact H
    iexact Hat
  have h2 : iprop(records m ρ K ∗ bigSep idle fun i => atPos ER (xCell c i) 0 ∅ 0)
      ⊢ bigSep idle fun i => iprop(records m ρ K ∗ atPos ER (xCell c i) 0 ∅ 0) := by
    rw [bigSep_sep']
    iintro ⟨#H, Hat⟩
    isplitr
    · iapply (BI.bigSep_of_persistent idle (records m ρ K)); iexact H
    iexact Hat
  exact (h2.trans (bigSep_mono h1)).trans (bigSep_fupd _ _)

section Start
variable {A : Type} {Q : A → sProp (MT nD τ sig Unit (Elt F) ℕ UU ℕ)} {c : Dev nD} {K : Dev nD × CI → ℕ}

/-- The two signals and the barrier wait. -/
theorem step_start {c₁ c₂ : Dev nD} (h₁ : c₁ = lt c) (h₂ : c₂ = rt c) {k : PUnit → Prog (TpuEff nD τ sig (Elt F) Λ₀ .tc) A}
    (h : St m ρ c K 0 0 0 (Rest₀ m ρ c) ⊢ run c (k ⟨⟩) Q) :
    Begin m ρ c K ⊢ run c (.op (.semSignal ((c₁ : Dev nD), .tc) barS (1#32 : BitVec 32).toInt) fun _ =>
      .op (.semSignal ((c₂ : Dev nD), .tc) barS (1#32 : BitVec 32).toInt) fun _ => .op (.semWait barS (2#32 : BitVec 32).toInt) k) Q := by
  subst h₁ h₂
  unfold Begin
  iintro ⟨#Hrec, #Hlev, ⟨%W, HO⟩, ⟨HtL, HtR, Hat, Hc⟩, Htoks, Hdue, Hidle, Hg, Hv, Hx, Hw, Ho⟩
  ihave Hg' := (gAny_split c) $$ Hg
  icases Hg' with ⟨HpL, HpR, H0, H1⟩
  unfold O₀
  iapply (Rounds.wp_signal 𝒱₀ ER (rd m ρ) (c : Thread nD τ) none (dst := (lt c : Thread nD τ)) (κ := K (lt c, .inl ()))
      (d := true) (by rw [duties_bar]; exact Finset.mem_univ _) ((amount_bar m ρ (lt c) true).trans (by decide)) () (O₁ c) rfl)
    $$ [HO HtL HpL]
  · isplitr; · iapply (inv_at m ρ K (lt c, .inl ())); iexact Hrec
    isplitl [HO]; · iexact HO
    isplitl [HtL]; · iexact HtL
    isplitl [HpL]; · rw [payload_bar]; iexact HpL
    iapply (reached_at m ρ K (lt c, .inl ())); iexact Hrec
  iintro HO
  unfold O₁
  iapply (Rounds.wp_signal 𝒱₀ ER (rd m ρ) (c : Thread nD τ) none (dst := (rt c : Thread nD τ)) (κ := K (rt c, .inl ()))
      (d := false) (by rw [duties_bar]; exact Finset.mem_univ _) ((amount_bar m ρ (rt c) false).trans (by decide)) () (Ow c 0) rfl)
    $$ [HO HtR HpR]
  · isplitr; · iapply (inv_at m ρ K (rt c, .inl ())); iexact Hrec
    isplitl [HO]; · iexact HO
    isplitl [HtR]; · iexact HtR
    isplitl [HpR]; · rw [payload_bar]; iexact HpR
    iapply (reached_at m ρ K (rt c, .inl ())); iexact Hrec
  iintro HO
  iapply (Rounds.wp_wait_rest_token 𝒱₀ ER (rd m ρ) (c : Thread nD τ) none (κ := K (c, .inl ()))
      (wpE_semWait_eq 𝒱₀ (c : Thread nD τ) none Set.univ) (Set.mem_univ _) () (O := Ow c 0) (W := W) (R := 0) (m := 0) (T := ∅)
      (by rw [expect_bar]; decide)) $$ [Hc HO Hat]
  · isplitr; · iapply (inv_at m ρ K (c, .inl ())); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  imod (Rounds.cell_close ER (rd m ρ) (Set.mem_univ (K (c, .inl ()))) (fun h => h) (R := 0 + 1) (duties_later m ρ (barCell c))) $$ [Hat] with Hz
  · isplitr; · iapply (inv_at m ρ K (c, .inl ())); iexact Hrec
    iexact Hat
  imod (idle_close m ρ c K Set.univ (fun i => Set.mem_univ _)) $$ [Hidle] with Hzs
  · isplitr; · iexact Hrec
    iexact Hidle
  iapply h
  unfold St Rest₀ zeros
  isplitr; · iexact Hrec
  isplitr; · iexact Hlev
  isplitl [HO]; · iexists _; iexact HO
  isplitl [Htoks Hp]
  · iapply (todo_intro m ρ c)
    isplitl [Htoks] <;> iassumption
  isplitl [Hdue]
  · iapply (due_intro m ρ c); iexact Hdue
  isplitl [H0]; · iexact H0
  isplitl [H1]; · iexact H1
  isplitl [Hx]; · iexact Hx
  isplitl [Hw]; · iexact Hw
  isplitl [Hv]; · iexact Hv
  isplitl [Ho]; · iexact Ho
  isplitl [Hz] <;> iassumption

end Start

end Cert.RingProof

end
-- ==== Proof.Offsets.lean ====
/-
# Where the products go

The row offset of each product and the value it stores, in the order the kernel takes them, and what the first two
stores do with the device's own block.
-/
module

public import proofs.«01_k».proof.Proof.Start

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- The rows of the block in slot `slotAt t`, as an offset. -/
abbrev offAt (c : Dev nD) (t : Fin 16) : Fin 2 → ℕ := ![256 * (org c (slotAt t).val).val, 0]

theorem off_eq {a b : ℕ} (h : a = b) : (![256 * a, 0] : Fin 2 → ℕ) = ![256 * b, 0] := by rw [h]

/-- The first product goes to the device's own rows. -/
theorem off_own (c : Dev nD) : k0_off1 c = offAt c 0 := by
  rw [k0_off1_eq]; refine off_eq ?_
  show c.val = (c.val + 16) % 16
  have : c.val < 16 := c.isLt
  omega
/-- The product with slot `r` goes to the rows of the device `r + 1` to the left. -/
theorem off_left (c : Dev nD) (r : Fin 7) : k0_off2 c (BitVec.ofNat 32 r.val) = offAt c ⟨2 * r.val + 1, by omega⟩ := by
  rw [k0_off2_eq]; refine off_eq ?_
  have hs : (slotAt ⟨2 * r.val + 1, by omega⟩).val = r.val := by revert r; decide
  rw [hs]
  show _ = (c.val + if 8 ≤ r.val ∧ r.val < 15 then r.val - 7 else 31 - r.val) % 16
  rw [if_neg (by omega)]
  have : c.val < 16 := c.isLt
  have : r.val < 7 := r.isLt
  omega
/-- The product with slot `8 + r` goes to the rows of the device `r + 1` to the right. -/
theorem off_right (c : Dev nD) (r : Fin 7) : k0_off3 c (BitVec.ofNat 32 r.val) = offAt c ⟨2 * r.val + 2, by omega⟩ := by
  rw [k0_off3_eq]; refine off_eq ?_
  have hs : (slotAt ⟨2 * r.val + 2, by omega⟩).val = r.val + 8 := by revert r; decide
  rw [hs]
  show _ = (c.val + if 8 ≤ r.val + 8 ∧ r.val + 8 < 15 then r.val + 8 - 7 else 31 - (r.val + 8)) % 16
  rw [if_pos (by omega)]
  omega
/-- The last product goes to the rows of the device across the ring. -/
theorem off_last (c : Dev nD) : k0_off4 c = offAt c 15 := by
  rw [k0_off4_eq]; refine off_eq ?_
  show (c.val + 8) % 16 = (c.val + 24) % 16
  omega

/-- The product with a slot is the product with the block it holds. -/
theorem rows_slot (c : Dev nD) (t : Fin 16) :
    matmul dot_S256x4096_S4096x128_S256x128_1_0_0_1_n_n none (shapeCast S256x4096 (slotV m ρ c (slotAt t)) shapeCasts_S1x256x4096_S256x4096)
      (wstg m ρ c) (constant S256x128 .f32 0x00000000#32) = rows (xstg m ρ (org c (slotAt t).val)) (wstg m ρ c) := by
  rw [slot_cast]; rfl

/-- What the first store does: the half goes into its piece, which is shared out for the two transfers that take it. -/
theorem first_half (c : Dev nD) : Rest₀ m ρ c ⊢ iprop((∃ f, piece (F := F) c (own 0) fullShare f)
    ∗ (piece c (own 0) fullShare (gath m ρ c) -∗ iprop(sendPay m ρ c 0 ∗ sendPay m ρ c 1 ∗ Rest₁ m ρ c))) := by
  rw [show sendPay m ρ c 0 = piece c (own 0) fullShare.right (gath m ρ c) from rfl,
    show sendPay m ρ c 1 = piece c (own 0) fullShare.left.right (gath m ρ c) from rfl]
  unfold Rest₀ Rest₁
  iintro ⟨H0, HR⟩
  isplitl [H0]; · iexact H0
  iintro H
  ihave H' := (mine_split m ρ c 0) $$ H
  icases H' with ⟨Hr, Hl, Hm⟩
  isplitl [Hr]; · iexact Hr
  isplitl [Hl]; · iexact Hl
  isplitl [Hm] <;> iassumption

/-- And the second. -/
theorem second_half (c : Dev nD) : Rest₁ m ρ c ⊢ iprop((∃ f, piece (F := F) c (own 1) fullShare f)
    ∗ (piece c (own 1) fullShare (gath m ρ c) -∗ iprop(sendPay m ρ c 2 ∗ sendPay m ρ c 3 ∗ Rest₂ m ρ c))) := by
  rw [show sendPay m ρ c 2 = piece c (own 1) fullShare.right (gath m ρ c) from rfl,
    show sendPay m ρ c 3 = piece c (own 1) fullShare.left.right (gath m ρ c) from rfl]
  unfold Rest₁ Rest₂
  iintro ⟨H0, H1, HR⟩
  isplitl [H1]; · iexact H1
  iintro H
  ihave H' := (mine_split m ρ c 1) $$ H
  icases H' with ⟨Hr, Hl, Hm⟩
  isplitl [Hr]; · iexact Hr
  isplitl [Hl]; · iexact Hl
  isplitl [H0]; · iexact H0
  isplitl [Hm] <;> iassumption

/-- A piece to be overwritten, read before. -/
theorem first_look (c : Dev nD) : Rest₀ m ρ c ⊢ iprop((∃ f, piece (F := F) c (own 0) fullShare f)
    ∗ ((∃ f, piece (F := F) c (own 0) fullShare f) -∗ Rest₀ m ρ c)) := by
  unfold Rest₀
  iintro ⟨H0, HR⟩
  isplitl [H0]; · iexact H0
  iintro H
  isplitl [H] <;> iassumption
theorem second_look (c : Dev nD) : Rest₁ m ρ c ⊢ iprop((∃ f, piece (F := F) c (own 1) fullShare f)
    ∗ ((∃ f, piece (F := F) c (own 1) fullShare f) -∗ Rest₁ m ρ c)) := by
  unfold Rest₁
  iintro ⟨H0, H1, HR⟩
  isplitl [H1]; · iexact H1
  iintro H
  isplitl [H0]; · iexact H0
  isplitl [H] <;> iassumption

/-- The block of `x`, to be put back. -/
theorem first_x (c : Dev nD) : Rest₀ m ρ c ⊢ iprop(xPts m ρ c ∗ (xPts m ρ c -∗ Rest₀ m ρ c)) := by
  unfold Rest₀
  iintro ⟨H0, H1, Hx, HR⟩
  isplitl [Hx]; · iexact Hx
  iintro Hx
  isplitl [H0]; · iexact H0
  isplitl [H1]; · iexact H1
  isplitl [Hx] <;> iassumption
theorem second_x (c : Dev nD) : Rest₁ m ρ c ⊢ iprop(xPts m ρ c ∗ (xPts m ρ c -∗ Rest₁ m ρ c)) := by
  unfold Rest₁
  iintro ⟨H0, H1, Hx, HR⟩
  isplitl [Hx]; · iexact Hx
  iintro Hx
  isplitl [H0]; · iexact H0
  isplitl [H1]; · iexact H1
  isplitl [Hx] <;> iassumption

end Cert.RingProof

end
-- ==== Proof.PartsA.lean ====
/-
# The kernel, first stretches
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 1: the barrier; the first half of the block of `x` into its slot. -/
theorem part1 {kk : (Σ' (d0 : Dev nD) (v2 : BitVec 32) (v5 : BitVec 32), BitVec 32) → Prog (TpuEff nD τ sig (Elt F) Λ₀ .tc) A}
    (h : ∀ w2 w5 w7, St m ρ c K 0 0 0 iprop(sendPay m ρ c 0 ∗ sendPay m ρ c 1 ∗ Rest₁ m ρ c) ⊢ run c (kk ⟨c, w2, w5, w7⟩) Q) :
    Begin m ρ c K ⊢ run c (k0_part1 xM h0 wM h1 oM h2 gM h3 vM h4 cc0_scratch2 cc0_scratch3  >>= kk) Q := by
  rw [k0_part1_eq_skeleton]
  unfold k0_part1_skel
  simp only [semSignalWord, semWaitWord, Prog.lift, Prog.bind_op, Prog.bind_ret, Prog.pure_eq_ret, wp_deviceId]
  refine step_start m ρ (Fin.ext (k0_dev1_eq c)) (Fin.ext (k0_dev2_eq c)) ?_
  refine step_x m ρ 0 (first_x m ρ c) ?_
  refine step_own_load m ρ 0 (first_look m ρ c) (fun _ => ?_)
  refine step_own_store m ρ 0 (half1 m ρ c) (first_half m ρ c) ?_
  exact h _ _ _

/-- Stretch 2: the second half of the block into its slot; start of transfers 0, 1 and 2. -/
theorem part2 (v5 : BitVec 32) (v7 : BitVec 32) {kk : PUnit → Prog (TpuEff nD τ sig (Elt F) Λ₀ .tc) A}
    (h : St m ρ c K 3 0 0 iprop(sendPay m ρ c 3 ∗ Rest₂ m ρ c) ⊢ run c (kk ⟨⟩) Q) :
    St m ρ c K 0 0 0 iprop(sendPay m ρ c 0 ∗ sendPay m ρ c 1 ∗ Rest₁ m ρ c) ⊢ run c (k0_part2 xM h0 wM h1 oM h2 gM h3 vM h4 cc0_scratch2 cc0_scratch3  c v5 v7 >>= kk) Q := by
  rw [k0_part2_eq_skeleton]
  unfold k0_part2_skel
  simp only [Prog.lift, Prog.bind_op, Prog.bind_ret, Prog.pure_eq_ret]
  refine step_send m ρ 0 (Nat.zero_le _) (Fin.ext (k0_dev3_eq c)) rfl rfl rfl rfl ?_
  refine step_send m ρ 1 (Nat.zero_le _) (Fin.ext (k0_dev4_eq c)) rfl rfl rfl rfl ?_
  refine step_x m ρ 1 (second_x m ρ c) ?_
  refine step_own_load m ρ 1 (second_look m ρ c) (fun _ => ?_)
  refine step_own_store m ρ 1 (half2 m ρ c) (second_half m ρ c) ?_
  refine step_send m ρ 2 (Nat.zero_le _) (Fin.ext (k0_dev5_eq c)) rfl rfl rfl rfl ?_
  exact h

/-- Stretch 3: the copy of the columns of `w_mat`; start of transfer 3; product 0 stored. -/
theorem part3 (v2 : BitVec 32) (v5 : BitVec 32) (v7 : BitVec 32) {kk : PUnit → Prog (TpuEff nD τ sig (Elt F) Λ₀ .tc) A}
    (h : St m ρ c K 4 0 0 (Rest m ρ c 1) ⊢ run c (kk ⟨⟩) Q) :
    St m ρ c K 3 0 0 iprop(sendPay m ρ c 3 ∗ Rest₂ m ρ c) ⊢ run c (k0_part3 xM h0 wM h1 oM h2 gM h3 vM h4 cc0_scratch2 cc0_scratch3  c v2 v5 v7 >>= kk) Q := by
  rw [k0_part3_eq_skeleton]
  unfold k0_part3_skel
  simp only [Prog.lift, Prog.bind_op, Prog.bind_ret, Prog.pure_eq_ret]
  refine step_send m ρ 3 (Nat.zero_le _) (Fin.ext (k0_dev6_eq c)) rfl rfl rfl rfl ?_
  refine step_w m ρ ?_
  refine step_v_load m ρ (fun _ => ?_)
  refine step_v_store m ρ (w_copy m ρ c) ?_
  refine step_slot_own m ρ 0 ?_
  refine step_v m ρ 0 ?_
  refine step_o_load m ρ 0 (fun _ => ?_)
  refine step_put m ρ 0 (off_own c) (rows_slot m ρ c 0) ?_
  exact h

/-- Stretch 4: arrival of transfers 0 and 1; start of transfer 4. -/
theorem part4 (v5 : BitVec 32) (v7 : BitVec 32) {kk : PUnit → Prog (TpuEff nD τ sig (Elt F) Λ₀ .tc) A}
    (h : St m ρ c K 5 0 2 iprop(sendPay m ρ c 5 ∗ Rest m ρ c 1) ⊢ run c (kk ⟨⟩) Q) :
    St m ρ c K 4 0 0 (Rest m ρ c 1) ⊢ run c (k0_part4 xM h0 wM h1 oM h2 gM h3 vM h4 cc0_scratch2 cc0_scratch3  c v5 v7 >>= kk) Q := by
  rw [k0_part4_eq_skeleton]
  unfold k0_part4_skel
  simp only [Prog.lift, Prog.bind_op, Prog.bind_ret, Prog.pure_eq_ret]
  refine step_recv_fwd m ρ 0 4 (by decide) rfl rfl (by decide) rfl rfl ?_
  refine step_send m ρ 4 (Nat.zero_le _) (Fin.ext (k0_dev7_eq c)) rfl rfl rfl rfl ?_
  refine step_recv_fwd m ρ 1 5 (by decide) rfl rfl (by decide) rfl rfl ?_
  exact h

/-- Stretch 5: arrival of transfer 2; start of transfers 5 and 6. -/
theorem part5 (v5 : BitVec 32) (v7 : BitVec 32) {kk : PUnit → Prog (TpuEff nD τ sig (Elt F) Λ₀ .tc) A}
    (h : St m ρ c K 7 0 3 (Rest m ρ c 1) ⊢ run c (kk ⟨⟩) Q) :
    St m ρ c K 5 0 2 iprop(sendPay m ρ c 5 ∗ Rest m ρ c 1) ⊢ run c (k0_part5 xM h0 wM h1 oM h2 gM h3 vM h4 cc0_scratch2 cc0_scratch3  c v5 v7 >>= kk) Q := by
  rw [k0_part5_eq_skeleton]
  unfold k0_part5_skel
  simp only [Prog.lift, Prog.bind_op, Prog.bind_ret, Prog.pure_eq_ret]
  refine step_send m ρ 5 (Nat.zero_le _) (Fin.ext (k0_dev8_eq c)) rfl rfl rfl rfl ?_
  refine step_recv_fwd m ρ 2 6 (by decide) rfl rfl (by decide) rfl rfl ?_
  refine step_send m ρ 6 (Nat.zero_le _) (Fin.ext (k0_dev9_eq c)) rfl rfl rfl rfl ?_
  exact h

end Parts

end Cert.RingProof

end
-- ==== Proof.PartsB.lean ====
/-
# The kernel, the second and third round of the ring
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 6: arrival of transfer 3; start of transfer 7; product 1 stored. -/
theorem part6 (v2 : BitVec 32) (v5 : BitVec 32) {kk : (Σ' (v160 : BitVec 32), FVec F S256x4096 .bf16) → Prog (TpuEff nD τ sig (Elt F) Λ₀ .tc) A}
    (h : ∀ w v, v = k0_pay6 (slotV m ρ c (slotAt 2)) → St m ρ c K 8 0 4 (Rest m ρ c 2) ⊢ run c (kk ⟨w, v⟩) Q) :
    St m ρ c K 7 0 3 (Rest m ρ c 1) ⊢ run c (k0_part6 xM h0 wM h1 oM h2 gM h3 vM h4 cc0_scratch2 cc0_scratch3  c v2 v5 >>= kk) Q := by
  rw [k0_part6_eq_skeleton]
  unfold k0_part6_skel
  simp only [Prog.lift, Prog.bind_op, Prog.bind_ret, Prog.pure_eq_ret]
  refine step_recv_fwd m ρ 3 7 (by decide) rfl rfl (by decide) rfl rfl ?_
  refine step_send m ρ 7 (Nat.zero_le _) (Fin.ext (k0_dev10_eq c)) rfl rfl rfl rfl ?_
  refine step_slot m ρ 0 0 2 (by decide) (by decide) rfl rfl ?_
  refine step_v m ρ 1 ?_
  refine step_o_load m ρ 1 (fun _ => ?_)
  refine step_put m ρ 1 (off_left c 0) (rows_slot m ρ c 1) ?_
  refine step_slot m ρ 8 1 3 (by decide) (by decide) rfl rfl ?_
  exact h _ _ rfl

/-- Stretch 7: arrival of transfer 4; start of transfer 8; product 2 stored. -/
theorem part7 (v5 : BitVec 32) (v7 : BitVec 32) (v160 : BitVec 32) (v162 : FVec F S256x4096 .bf16) (hv : v162 = k0_pay6 (slotV m ρ c (slotAt 2))) {kk : PUnit → Prog (TpuEff nD τ sig (Elt F) Λ₀ .tc) A}
    (h : St m ρ c K 9 0 5 (Rest m ρ c 3) ⊢ run c (kk ⟨⟩) Q) :
    St m ρ c K 8 0 4 (Rest m ρ c 2) ⊢ run c (k0_part7 xM h0 wM h1 oM h2 gM h3 vM h4 cc0_scratch2 cc0_scratch3  c v5 v7 v160 v162 >>= kk) Q := by
  rw [k0_part7_eq_skeleton]
  unfold k0_part7_skel
  simp only [Prog.lift, Prog.bind_op, Prog.bind_ret, Prog.pure_eq_ret]
  refine step_v m ρ 2 ?_
  refine step_o_load m ρ 2 (fun _ => ?_)
  refine step_put m ρ 2 (off_right c 0) (by rw [hv]; exact rows_slot m ρ c 2) ?_
  refine step_recv_fwd m ρ 4 8 (by decide) rfl rfl (by decide) rfl rfl ?_
  refine step_send m ρ 8 (Nat.zero_le _) (Fin.ext (k0_dev11_eq c)) rfl rfl rfl rfl ?_
  exact h

/-- Stretch 8: arrival of transfers 5 and 6; start of transfer 9. -/
theorem part8 (v5 : BitVec 32) (v7 : BitVec 32) {kk : PUnit → Prog (TpuEff nD τ sig (Elt F) Λ₀ .tc) A}
    (h : St m ρ c K 10 0 7 iprop(sendPay m ρ c 10 ∗ Rest m ρ c 3) ⊢ run c (kk ⟨⟩) Q) :
    St m ρ c K 9 0 5 (Rest m ρ c 3) ⊢ run c (k0_part8 xM h0 wM h1 oM h2 gM h3 vM h4 cc0_scratch2 cc0_scratch3  c v5 v7 >>= kk) Q := by
  rw [k0_part8_eq_skeleton]
  unfold k0_part8_skel
  simp only [Prog.lift, Prog.bind_op, Prog.bind_ret, Prog.pure_eq_ret]
  refine step_recv_fwd m ρ 5 9 (by decide) rfl rfl (by decide) rfl rfl ?_
  refine step_send m ρ 9 (Nat.zero_le _) (Fin.ext (k0_dev12_eq c)) rfl rfl rfl rfl ?_
  refine step_recv_fwd m ρ 6 10 (by decide) rfl rfl (by decide) rfl rfl ?_
  exact h

/-- Stretch 9: arrival of transfer 7; start of transfers 10 and 11. -/
theorem part9 (v2 : BitVec 32) (v5 : BitVec 32) {kk : (BitVec 32) → Prog (TpuEff nD τ sig (Elt F) Λ₀ .tc) A}
    (h : ∀ w, St m ρ c K 12 0 8 (Rest m ρ c 3) ⊢ run c (kk w) Q) :
    St m ρ c K 10 0 7 iprop(sendPay m ρ c 10 ∗ Rest m ρ c 3) ⊢ run c (k0_part9 xM h0 wM h1 oM h2 gM h3 vM h4 cc0_scratch2 cc0_scratch3  c v2 v5 >>= kk) Q := by
  rw [k0_part9_eq_skeleton]
  unfold k0_part9_skel
  simp only [Prog.lift, Prog.bind_op, Prog.bind_ret, Prog.pure_eq_ret]
  refine step_send m ρ 10 (Nat.zero_le _) (Fin.ext (k0_dev13_eq c)) rfl rfl rfl rfl ?_
  refine step_recv_fwd m ρ 7 11 (by decide) rfl rfl (by decide) rfl rfl ?_
  refine step_send m ρ 11 (Nat.zero_le _) (Fin.ext (k0_dev14_eq c)) rfl rfl rfl rfl ?_
  exact h _

/-- Stretch 10: arrival of transfer 8; products 3 and 4 stored. -/
theorem part10 (v2 : BitVec 32) (v7 : BitVec 32) (v243 : BitVec 32) {kk : (BitVec 32) → Prog (TpuEff nD τ sig (Elt F) Λ₀ .tc) A}
    (h : ∀ w, St m ρ c K 12 0 9 iprop(sendPay m ρ c 12 ∗ Rest m ρ c 5) ⊢ run c (kk w) Q) :
    St m ρ c K 12 0 8 (Rest m ρ c 3) ⊢ run c (k0_part10 xM h0 wM h1 oM h2 gM h3 vM h4 cc0_scratch2 cc0_scratch3  c v2 v7 v243 >>= kk) Q := by
  rw [k0_part10_eq_skeleton]
  unfold k0_part10_skel
  simp only [Prog.lift, Prog.bind_op, Prog.bind_ret, Prog.pure_eq_ret]
  refine step_slot m ρ 1 4 6 (by decide) (by decide) rfl rfl ?_
  refine step_v m ρ 3 ?_
  refine step_o_load m ρ 3 (fun _ => ?_)
  refine step_put m ρ 3 (off_left c 1) (rows_slot m ρ c 3) ?_
  refine step_slot m ρ 9 5 7 (by decide) (by decide) rfl rfl ?_
  refine step_v m ρ 4 ?_
  refine step_o_load m ρ 4 (fun _ => ?_)
  refine step_put m ρ 4 (off_right c 1) (rows_slot m ρ c 4) ?_
  refine step_recv_fwd m ρ 8 12 (by decide) rfl rfl (by decide) rfl rfl ?_
  exact h _

end Parts

end Cert.RingProof

end
-- ==== Proof.PartsC.lean ====
/-
# The kernel, the next rounds
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 11: arrival of transfer 9; start of transfers 12 and 13. -/
theorem part11 (v5 : BitVec 32) (v7 : BitVec 32) (c1_i32_270 : BitVec 32) {kk : PUnit → Prog (TpuEff nD τ sig (Elt F) Λ₀ .tc) A}
    (h : St m ρ c K 14 0 10 (Rest m ρ c 5) ⊢ run c (kk ⟨⟩) Q) :
    St m ρ c K 12 0 9 iprop(sendPay m ρ c 12 ∗ Rest m ρ c 5) ⊢ run c (k0_part11 xM h0 wM h1 oM h2 gM h3 vM h4 cc0_scratch2 cc0_scratch3  c v5 v7 c1_i32_270 >>= kk) Q := by
  rw [k0_part11_eq_skeleton]
  unfold k0_part11_skel
  simp only [Prog.lift, Prog.bind_op, Prog.bind_ret, Prog.pure_eq_ret]
  refine step_send m ρ 12 (Nat.zero_le _) (Fin.ext (k0_dev15_eq c)) rfl rfl rfl rfl ?_
  refine step_recv_fwd m ρ 9 13 (by decide) rfl rfl (by decide) rfl rfl ?_
  refine step_send m ρ 13 (Nat.zero_le _) (Fin.ext (k0_dev16_eq c)) rfl rfl rfl rfl ?_
  exact h

/-- Stretch 12: arrival of transfers 10 and 11; start of transfer 14. -/
theorem part12 (v5 : BitVec 32) (v7 : BitVec 32) {kk : (BitVec 32) → Prog (TpuEff nD τ sig (Elt F) Λ₀ .tc) A}
    (h : ∀ w, St m ρ c K 15 0 12 iprop(sendPay m ρ c 15 ∗ Rest m ρ c 5) ⊢ run c (kk w) Q) :
    St m ρ c K 14 0 10 (Rest m ρ c 5) ⊢ run c (k0_part12 xM h0 wM h1 oM h2 gM h3 vM h4 cc0_scratch2 cc0_scratch3  c v5 v7 >>= kk) Q := by
  rw [k0_part12_eq_skeleton]
  unfold k0_part12_skel
  simp only [Prog.lift, Prog.bind_op, Prog.bind_ret, Prog.pure_eq_ret]
  refine step_recv_fwd m ρ 10 14 (by decide) rfl rfl (by decide) rfl rfl ?_
  refine step_send m ρ 14 (Nat.zero_le _) (Fin.ext (k0_dev17_eq c)) rfl rfl rfl rfl ?_
  refine step_recv_fwd m ρ 11 15 (by decide) rfl rfl (by decide) rfl rfl ?_
  exact h _

/-- Stretch 13: start of transfer 15; product 5 stored. -/
theorem part13 (v2 : BitVec 32) (v5 : BitVec 32) (c1_i32_326 : BitVec 32) {kk : (FVec F S256x128 .f32) → Prog (TpuEff nD τ sig (Elt F) Λ₀ .tc) A}
    (h : ∀ v, v = rows (xstg m ρ (org c (slotAt 6).val)) (wstg m ρ c) → St m ρ c K 16 0 12 (Rest m ρ c 6) ⊢ run c (kk v) Q) :
    St m ρ c K 15 0 12 iprop(sendPay m ρ c 15 ∗ Rest m ρ c 5) ⊢ run c (k0_part13 xM h0 wM h1 oM h2 gM h3 vM h4 cc0_scratch2 cc0_scratch3  c v2 v5 c1_i32_326 >>= kk) Q := by
  rw [k0_part13_eq_skeleton]
  unfold k0_part13_skel
  simp only [Prog.lift, Prog.bind_op, Prog.bind_ret, Prog.pure_eq_ret]
  refine step_send m ρ 15 (Nat.zero_le _) (Fin.ext (k0_dev18_eq c)) rfl rfl rfl rfl ?_
  refine step_slot m ρ 2 8 10 (by decide) (by decide) rfl rfl ?_
  refine step_v m ρ 5 ?_
  refine step_o_load m ρ 5 (fun _ => ?_)
  refine step_put m ρ 5 (off_left c 2) (rows_slot m ρ c 5) ?_
  refine step_slot m ρ 10 9 11 (by decide) (by decide) rfl rfl ?_
  refine step_v m ρ 6 ?_
  exact h _ (rows_slot m ρ c 6)

/-- Stretch 14: arrival of transfer 12; start of transfer 16; product 6 stored. -/
theorem part14 (v5 : BitVec 32) (v7 : BitVec 32) (v350 : FVec F S256x128 .f32) (hv : v350 = rows (xstg m ρ (org c (slotAt 6).val)) (wstg m ρ c)) {kk : PUnit → Prog (TpuEff nD τ sig (Elt F) Λ₀ .tc) A}
    (h : St m ρ c K 17 0 13 (Rest m ρ c 7) ⊢ run c (kk ⟨⟩) Q) :
    St m ρ c K 16 0 12 (Rest m ρ c 6) ⊢ run c (k0_part14 xM h0 wM h1 oM h2 gM h3 vM h4 cc0_scratch2 cc0_scratch3  c v5 v7 v350 >>= kk) Q := by
  rw [k0_part14_eq_skeleton]
  unfold k0_part14_skel
  simp only [Prog.lift, Prog.bind_op, Prog.bind_ret, Prog.pure_eq_ret]
  refine step_o_load m ρ 6 (fun _ => ?_)
  refine step_put m ρ 6 (off_right c 2) hv ?_
  refine step_recv_fwd m ρ 12 16 (by decide) rfl rfl (by decide) rfl rfl ?_
  refine step_send m ρ 16 (Nat.zero_le _) (Fin.ext (k0_dev19_eq c)) rfl rfl rfl rfl ?_
  exact h

/-- Stretch 15: arrival of transfers 13 and 14; start of transfer 17. -/
theorem part15 (v5 : BitVec 32) (v7 : BitVec 32) {kk : PUnit → Prog (TpuEff nD τ sig (Elt F) Λ₀ .tc) A}
    (h : St m ρ c K 18 0 15 iprop(sendPay m ρ c 18 ∗ Rest m ρ c 7) ⊢ run c (kk ⟨⟩) Q) :
    St m ρ c K 17 0 13 (Rest m ρ c 7) ⊢ run c (k0_part15 xM h0 wM h1 oM h2 gM h3 vM h4 cc0_scratch2 cc0_scratch3  c v5 v7 >>= kk) Q := by
  rw [k0_part15_eq_skeleton]
  unfold k0_part15_skel
  simp only [Prog.lift, Prog.bind_op, Prog.bind_ret, Prog.pure_eq_ret]
  refine step_recv_fwd m ρ 13 17 (by decide) rfl rfl (by decide) rfl rfl ?_
  refine step_send m ρ 17 (Nat.zero_le _) (Fin.ext (k0_dev20_eq c)) rfl rfl rfl rfl ?_
  refine step_recv_fwd m ρ 14 18 (by decide) rfl rfl (by decide) rfl rfl ?_
  exact h

end Parts

end Cert.RingProof

end
-- ==== Proof.PartsD.lean ====
/-
# The kernel, rounds four to six
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 16: arrival of transfer 15; start of transfers 18 and 19. -/
theorem part16 (v2 : BitVec 32) (v5 : BitVec 32) {kk : (Σ' (v429 : BitVec 32), FVec F S256x128 .f32) → Prog (TpuEff nD τ sig (Elt F) Λ₀ .tc) A}
    (h : ∀ w v, v = rows (xstg m ρ (org c (slotAt 7).val)) (wstg m ρ c) → St m ρ c K 20 0 16 (Rest m ρ c 7) ⊢ run c (kk ⟨w, v⟩) Q) :
    St m ρ c K 18 0 15 iprop(sendPay m ρ c 18 ∗ Rest m ρ c 7) ⊢ run c (k0_part16 xM h0 wM h1 oM h2 gM h3 vM h4 cc0_scratch2 cc0_scratch3  c v2 v5 >>= kk) Q := by
  rw [k0_part16_eq_skeleton]
  unfold k0_part16_skel
  simp only [Prog.lift, Prog.bind_op, Prog.bind_ret, Prog.pure_eq_ret]
  refine step_send m ρ 18 (Nat.zero_le _) (Fin.ext (k0_dev21_eq c)) rfl rfl rfl rfl ?_
  refine step_recv_fwd m ρ 15 19 (by decide) rfl rfl (by decide) rfl rfl ?_
  refine step_send m ρ 19 (Nat.zero_le _) (Fin.ext (k0_dev22_eq c)) rfl rfl rfl rfl ?_
  refine step_slot m ρ 3 12 14 (by decide) (by decide) rfl rfl ?_
  refine step_v m ρ 7 ?_
  exact h _ _ (rows_slot m ρ c 7)

/-- Stretch 17: arrival of transfer 16; products 7 and 8 stored. -/
theorem part17 (v2 : BitVec 32) (v7 : BitVec 32) (v429 : BitVec 32) (v433 : FVec F S256x128 .f32) (hv : v433 = rows (xstg m ρ (org c (slotAt 7).val)) (wstg m ρ c)) {kk : PUnit → Prog (TpuEff nD τ sig (Elt F) Λ₀ .tc) A}
    (h : St m ρ c K 20 0 17 iprop(sendPay m ρ c 20 ∗ Rest m ρ c 9) ⊢ run c (kk ⟨⟩) Q) :
    St m ρ c K 20 0 16 (Rest m ρ c 7) ⊢ run c (k0_part17 xM h0 wM h1 oM h2 gM h3 vM h4 cc0_scratch2 cc0_scratch3  c v2 v7 v429 v433 >>= kk) Q := by
  rw [k0_part17_eq_skeleton]
  unfold k0_part17_skel
  simp only [Prog.lift, Prog.bind_op, Prog.bind_ret, Prog.pure_eq_ret]
  refine step_o_load m ρ 7 (fun _ => ?_)
  refine step_put m ρ 7 (off_left c 3) hv ?_
  refine step_slot m ρ 11 13 15 (by decide) (by decide) rfl rfl ?_
  refine step_v m ρ 8 ?_
  refine step_o_load m ρ 8 (fun _ => ?_)
  refine step_put m ρ 8 (off_right c 3) (rows_slot m ρ c 8) ?_
  refine step_recv_fwd m ρ 16 20 (by decide) rfl rfl (by decide) rfl rfl ?_
  exact h

/-- Stretch 18: arrival of transfer 17; start of transfers 20 and 21. -/
theorem part18 (v5 : BitVec 32) (v7 : BitVec 32) {kk : PUnit → Prog (TpuEff nD τ sig (Elt F) Λ₀ .tc) A}
    (h : St m ρ c K 22 0 18 (Rest m ρ c 9) ⊢ run c (kk ⟨⟩) Q) :
    St m ρ c K 20 0 17 iprop(sendPay m ρ c 20 ∗ Rest m ρ c 9) ⊢ run c (k0_part18 xM h0 wM h1 oM h2 gM h3 vM h4 cc0_scratch2 cc0_scratch3  c v5 v7 >>= kk) Q := by
  rw [k0_part18_eq_skeleton]
  unfold k0_part18_skel
  simp only [Prog.lift, Prog.bind_op, Prog.bind_ret, Prog.pure_eq_ret]
  refine step_send m ρ 20 (Nat.zero_le _) (Fin.ext (k0_dev23_eq c)) rfl rfl rfl rfl ?_
  refine step_recv_fwd m ρ 17 21 (by decide) rfl rfl (by decide) rfl rfl ?_
  refine step_send m ρ 21 (Nat.zero_le _) (Fin.ext (k0_dev24_eq c)) rfl rfl rfl rfl ?_
  exact h

/-- Stretch 19: arrival of transfers 18 and 19; start of transfer 22. -/
theorem part19 (v5 : BitVec 32) (v7 : BitVec 32) {kk : PUnit → Prog (TpuEff nD τ sig (Elt F) Λ₀ .tc) A}
    (h : St m ρ c K 23 0 20 iprop(sendPay m ρ c 23 ∗ Rest m ρ c 9) ⊢ run c (kk ⟨⟩) Q) :
    St m ρ c K 22 0 18 (Rest m ρ c 9) ⊢ run c (k0_part19 xM h0 wM h1 oM h2 gM h3 vM h4 cc0_scratch2 cc0_scratch3  c v5 v7 >>= kk) Q := by
  rw [k0_part19_eq_skeleton]
  unfold k0_part19_skel
  simp only [Prog.lift, Prog.bind_op, Prog.bind_ret, Prog.pure_eq_ret]
  refine step_recv_fwd m ρ 18 22 (by decide) rfl rfl (by decide) rfl rfl ?_
  refine step_send m ρ 22 (Nat.zero_le _) (Fin.ext (k0_dev25_eq c)) rfl rfl rfl rfl ?_
  refine step_recv_fwd m ρ 19 23 (by decide) rfl rfl (by decide) rfl rfl ?_
  exact h

/-- Stretch 20: start of transfer 23; products 9 and 10 stored. -/
theorem part20 (v2 : BitVec 32) (v7 : BitVec 32) {kk : (BitVec 32) → Prog (TpuEff nD τ sig (Elt F) Λ₀ .tc) A}
    (h : ∀ w, St m ρ c K 24 0 20 (Rest m ρ c 11) ⊢ run c (kk w) Q) :
    St m ρ c K 23 0 20 iprop(sendPay m ρ c 23 ∗ Rest m ρ c 9) ⊢ run c (k0_part20 xM h0 wM h1 oM h2 gM h3 vM h4 cc0_scratch2 cc0_scratch3  c v2 v7 >>= kk) Q := by
  rw [k0_part20_eq_skeleton]
  unfold k0_part20_skel
  simp only [Prog.lift, Prog.bind_op, Prog.bind_ret, Prog.pure_eq_ret]
  refine step_send m ρ 23 (Nat.zero_le _) (Fin.ext (k0_dev26_eq c)) rfl rfl rfl rfl ?_
  refine step_slot m ρ 4 16 18 (by decide) (by decide) rfl rfl ?_
  refine step_v m ρ 9 ?_
  refine step_o_load m ρ 9 (fun _ => ?_)
  refine step_put m ρ 9 (off_left c 4) (rows_slot m ρ c 9) ?_
  refine step_slot m ρ 12 17 19 (by decide) (by decide) rfl rfl ?_
  refine step_v m ρ 10 ?_
  refine step_o_load m ρ 10 (fun _ => ?_)
  refine step_put m ρ 10 (off_right c 4) (rows_slot m ρ c 10) ?_
  exact h _

end Parts

end Cert.RingProof

end
-- ==== Proof.PartsE.lean ====
/-
# The kernel, the last rounds
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 21: arrival of transfers 20 and 21; start of transfer 24. -/
theorem part21 (v5 : BitVec 32) (v7 : BitVec 32) (v540 : BitVec 32) {kk : (Σ' (v566 : BitVec 32), BitVec 32) → Prog (TpuEff nD τ sig (Elt F) Λ₀ .tc) A}
    (h : ∀ w w', St m ρ c K 25 0 22 iprop(sendPay m ρ c 25 ∗ Rest m ρ c 11) ⊢ run c (kk ⟨w, w'⟩) Q) :
    St m ρ c K 24 0 20 (Rest m ρ c 11) ⊢ run c (k0_part21 xM h0 wM h1 oM h2 gM h3 vM h4 cc0_scratch2 cc0_scratch3  c v5 v7 v540 >>= kk) Q := by
  rw [k0_part21_eq_skeleton]
  unfold k0_part21_skel
  simp only [Prog.lift, Prog.bind_op, Prog.bind_ret, Prog.pure_eq_ret]
  refine step_recv_fwd m ρ 20 24 (by decide) rfl rfl (by decide) rfl rfl ?_
  refine step_send m ρ 24 (Nat.zero_le _) (Fin.ext (k0_dev27_eq c)) rfl rfl rfl rfl ?_
  refine step_recv_fwd m ρ 21 25 (by decide) rfl rfl (by decide) rfl rfl ?_
  exact h _ _

/-- Stretch 22: arrival of transfer 22; start of transfers 25 and 26. -/
theorem part22 (v5 : BitVec 32) (v7 : BitVec 32) (v566 : BitVec 32) (c0_i32_582 : BitVec 32) {kk : (BitVec 32) → Prog (TpuEff nD τ sig (Elt F) Λ₀ .tc) A}
    (h : ∀ w, St m ρ c K 27 0 23 (Rest m ρ c 11) ⊢ run c (kk w) Q) :
    St m ρ c K 25 0 22 iprop(sendPay m ρ c 25 ∗ Rest m ρ c 11) ⊢ run c (k0_part22 xM h0 wM h1 oM h2 gM h3 vM h4 cc0_scratch2 cc0_scratch3  c v5 v7 v566 c0_i32_582 >>= kk) Q := by
  rw [k0_part22_eq_skeleton]
  unfold k0_part22_skel
  simp only [Prog.lift, Prog.bind_op, Prog.bind_ret, Prog.pure_eq_ret]
  refine step_send m ρ 25 (Nat.zero_le _) (Fin.ext (k0_dev28_eq c)) rfl rfl rfl rfl ?_
  refine step_recv_fwd m ρ 22 26 (by decide) rfl rfl (by decide) rfl rfl ?_
  refine step_send m ρ 26 (Nat.zero_le _) (Fin.ext (k0_dev29_eq c)) rfl rfl rfl rfl ?_
  exact h _

/-- Stretch 23: arrival of transfer 23; start of transfer 27; product 11 stored. -/
theorem part23 (v2 : BitVec 32) (v5 : BitVec 32) (v594 : BitVec 32) {kk : (BitVec 32) → Prog (TpuEff nD τ sig (Elt F) Λ₀ .tc) A}
    (h : ∀ w, St m ρ c K 28 0 24 (Rest m ρ c 12) ⊢ run c (kk w) Q) :
    St m ρ c K 27 0 23 (Rest m ρ c 11) ⊢ run c (k0_part23 xM h0 wM h1 oM h2 gM h3 vM h4 cc0_scratch2 cc0_scratch3  c v2 v5 v594 >>= kk) Q := by
  rw [k0_part23_eq_skeleton]
  unfold k0_part23_skel
  simp only [Prog.lift, Prog.bind_op, Prog.bind_ret, Prog.pure_eq_ret]
  refine step_recv_fwd m ρ 23 27 (by decide) rfl rfl (by decide) rfl rfl ?_
  refine step_send m ρ 27 (Nat.zero_le _) (Fin.ext (k0_dev30_eq c)) rfl rfl rfl rfl ?_
  refine step_slot m ρ 5 20 22 (by decide) (by decide) rfl rfl ?_
  refine step_v m ρ 11 ?_
  refine step_o_load m ρ 11 (fun _ => ?_)
  refine step_put m ρ 11 (off_left c 5) (rows_slot m ρ c 11) ?_
  exact h _

/-- Stretch 24: arrival of transfer 24; start of transfer 28; product 12 stored. -/
theorem part24 (v7 : BitVec 32) (v623 : BitVec 32) {kk : PUnit → Prog (TpuEff nD τ sig (Elt F) Λ₀ .tc) A}
    (h : St m ρ c K 29 0 25 (Rest m ρ c 13) ⊢ run c (kk ⟨⟩) Q) :
    St m ρ c K 28 0 24 (Rest m ρ c 12) ⊢ run c (k0_part24 xM h0 wM h1 oM h2 gM h3 vM h4 cc0_scratch2 cc0_scratch3  c v7 v623 >>= kk) Q := by
  rw [k0_part24_eq_skeleton]
  unfold k0_part24_skel
  simp only [Prog.lift, Prog.bind_op, Prog.bind_ret, Prog.pure_eq_ret]
  refine step_slot m ρ 13 21 23 (by decide) (by decide) rfl rfl ?_
  refine step_v m ρ 12 ?_
  refine step_o_load m ρ 12 (fun _ => ?_)
  refine step_put m ρ 12 (off_right c 5) (rows_slot m ρ c 12) ?_
  refine step_recv_fwd m ρ 24 28 (by decide) rfl rfl (by decide) rfl rfl ?_
  refine step_send m ρ 28 (Nat.zero_le _) (Fin.ext (k0_dev31_eq c)) rfl rfl rfl rfl ?_
  exact h

/-- Stretch 25: arrival of transfers 25, 26 and 27. -/
theorem part25 (v5 : BitVec 32) (v7 : BitVec 32) {kk : PUnit → Prog (TpuEff nD τ sig (Elt F) Λ₀ .tc) A}
    (h : St m ρ c K 29 0 28 iprop(sendPay m ρ c 29 ∗ Rest m ρ c 13) ⊢ run c (kk ⟨⟩) Q) :
    St m ρ c K 29 0 25 (Rest m ρ c 13) ⊢ run c (k0_part25 xM h0 wM h1 oM h2 gM h3 vM h4 cc0_scratch2 cc0_scratch3  v5 v7 >>= kk) Q := by
  rw [k0_part25_eq_skeleton]
  unfold k0_part25_skel
  simp only [Prog.lift, Prog.bind_op, Prog.bind_ret, Prog.pure_eq_ret]
  refine step_recv_keep m ρ 25 (by decide) (by decide) rfl rfl ?_
  refine step_recv_keep m ρ 26 (by decide) (by decide) rfl rfl ?_
  refine step_recv_fwd m ρ 27 29 (by decide) rfl rfl (by decide) rfl rfl ?_
  exact h

end Parts

end Cert.RingProof

end
-- ==== Proof.PartsF.lean ====
/-
# The kernel, the last products
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 26: start of transfer 29; product 13 stored. -/
theorem part26 (v2 : BitVec 32) (v5 : BitVec 32) {kk : (Σ' (v702 : FVec F S256x128 .f32), BitVec 32) → Prog (TpuEff nD τ sig (Elt F) Λ₀ .tc) A}
    (h : ∀ v w, v = rows (xstg m ρ (org c (slotAt 14).val)) (wstg m ρ c) → St m ρ c K 30 0 28 (Rest m ρ c 14) ⊢ run c (kk ⟨v, w⟩) Q) :
    St m ρ c K 29 0 28 iprop(sendPay m ρ c 29 ∗ Rest m ρ c 13) ⊢ run c (k0_part26 xM h0 wM h1 oM h2 gM h3 vM h4 cc0_scratch2 cc0_scratch3  c v2 v5 >>= kk) Q := by
  rw [k0_part26_eq_skeleton]
  unfold k0_part26_skel
  simp only [Prog.lift, Prog.bind_op, Prog.bind_ret, Prog.pure_eq_ret]
  refine step_send m ρ 29 (Nat.zero_le _) (Fin.ext (k0_dev32_eq c)) rfl rfl rfl rfl ?_
  refine step_slot m ρ 6 24 26 (by decide) (by decide) rfl rfl ?_
  refine step_v m ρ 13 ?_
  refine step_o_load m ρ 13 (fun _ => ?_)
  refine step_put m ρ 13 (off_left c 6) (rows_slot m ρ c 13) ?_
  refine step_slot m ρ 14 25 27 (by decide) (by decide) rfl rfl ?_
  refine step_v m ρ 14 ?_
  exact h _ _ (rows_slot m ρ c 14)

/-- Stretch 27: arrival of transfers 28 and 29; product 14 stored. -/
theorem part27 (v2 : BitVec 32) (v5 : BitVec 32) (v7 : BitVec 32) (v702 : FVec F S256x128 .f32) (v703 : BitVec 32) (hv : v702 = rows (xstg m ρ (org c (slotAt 14).val)) (wstg m ρ c)) {kk : (FVec F S256x128 .f32) → Prog (TpuEff nD τ sig (Elt F) Λ₀ .tc) A}
    (h : ∀ v, v = rows (xstg m ρ (org c (slotAt 15).val)) (wstg m ρ c) → St m ρ c K 30 0 30 (Rest m ρ c 15) ⊢ run c (kk v) Q) :
    St m ρ c K 30 0 28 (Rest m ρ c 14) ⊢ run c (k0_part27 xM h0 wM h1 oM h2 gM h3 vM h4 cc0_scratch2 cc0_scratch3  c v2 v5 v7 v702 v703 >>= kk) Q := by
  rw [k0_part27_eq_skeleton]
  unfold k0_part27_skel
  simp only [Prog.lift, Prog.bind_op, Prog.bind_ret, Prog.pure_eq_ret]
  refine step_o_load m ρ 14 (fun _ => ?_)
  refine step_put m ρ 14 (off_right c 6) hv ?_
  refine step_recv_keep m ρ 28 (by decide) (by decide) rfl rfl ?_
  refine step_recv_keep m ρ 29 (by decide) (by decide) rfl rfl ?_
  refine step_slot m ρ 7 28 29 (by decide) (by decide) rfl rfl ?_
  refine step_v m ρ 15 ?_
  exact h _ (rows_slot m ρ c 15)

/-- Stretch 28: product 15 stored; transfers 0, 1 and 2 sent. -/
theorem part28 (v727 : FVec F S256x128 .f32) (hv : v727 = rows (xstg m ρ (org c (slotAt 15).val)) (wstg m ρ c)) {kk : PUnit → Prog (TpuEff nD τ sig (Elt F) Λ₀ .tc) A}
    (h : St m ρ c K 30 3 30 (Rest m ρ c 16) ⊢ run c (kk ⟨⟩) Q) :
    St m ρ c K 30 0 30 (Rest m ρ c 15) ⊢ run c (k0_part28 xM h0 wM h1 oM h2 gM h3 vM h4 cc0_scratch2 cc0_scratch3  c v727 >>= kk) Q := by
  rw [k0_part28_eq_skeleton]
  unfold k0_part28_skel
  simp only [Prog.lift, Prog.bind_op, Prog.bind_ret, Prog.pure_eq_ret]
  refine step_o_load m ρ 15 (fun _ => ?_)
  refine step_put m ρ 15 (off_last c) hv ?_
  refine step_wait m ρ 0 (q := sp 0) rfl rfl ?_
  refine step_wait m ρ 1 (q := sp 1) rfl rfl ?_
  refine step_wait m ρ 2 (q := sp 2) rfl rfl ?_
  exact h

end Parts

end Cert.RingProof

end
-- ==== Proof.PartsG.lean ====
/-
# The kernel, waiting for what was sent
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

section Parts
variable {A : Type} {Q : A → sProp (MT nD τ sig Unit (Elt F) ℕ UU ℕ)} {c : Dev nD} {K : Dev nD × CI → ℕ}
variable {h0 : xM.IsWhole} {h1 : wM.IsWhole} {h2 : oM.IsWhole} {h3 : gM.IsWhole} {h4 : vM.IsWhole}

/-- Stretch 29: transfers 3, 4, 5 and 6 sent. -/
theorem part29 {kk : PUnit → Prog (TpuEff nD τ sig (Elt F) Λ₀ .tc) A}
    (h : St m ρ c K 30 7 30 (Rest m ρ c 16) ⊢ run c (kk ⟨⟩) Q) :
    St m ρ c K 30 3 30 (Rest m ρ c 16) ⊢ run c (k0_part29 xM h0 wM h1 oM h2 gM h3 vM h4 cc0_scratch2 cc0_scratch3  >>= kk) Q := by
  rw [k0_part29_eq_skeleton]
  unfold k0_part29_skel
  simp only [Prog.lift, Prog.bind_op, Prog.bind_ret, Prog.pure_eq_ret]
  refine step_wait m ρ 3 (q := sp 3) rfl rfl ?_
  refine step_wait m ρ 4 (q := sp 4) rfl rfl ?_
  refine step_wait m ρ 5 (q := sp 5) rfl rfl ?_
  refine step_wait m ρ 6 (q := sp 6) rfl rfl ?_
  exact h

/-- Stretch 30: transfers 7, 8, 9 and 10 sent. -/
theorem part30 {kk : PUnit → Prog (TpuEff nD τ sig (Elt F) Λ₀ .tc) A}
    (h : St m ρ c K 30 11 30 (Rest m ρ c 16) ⊢ run c (kk ⟨⟩) Q) :
    St m ρ c K 30 7 30 (Rest m ρ c 16) ⊢ run c (k0_part30 xM h0 wM h1 oM h2 gM h3 vM h4 cc0_scratch2 cc0_scratch3  >>= kk) Q := by
  rw [k0_part30_eq_skeleton]
  unfold k0_part30_skel
  simp only [Prog.lift, Prog.bind_op, Prog.bind_ret, Prog.pure_eq_ret]
  refine step_wait m ρ 7 (q := sp 7) rfl rfl ?_
  refine step_wait m ρ 8 (q := sp 8) rfl rfl ?_
  refine step_wait m ρ 9 (q := sp 9) rfl rfl ?_
  refine step_wait m ρ 10 (q := sp 10) rfl rfl ?_
  exact h

/-- Stretch 31: transfers 11, 12 and 13 sent. -/
theorem part31 {kk : PUnit → Prog (TpuEff nD τ sig (Elt F) Λ₀ .tc) A}
    (h : St m ρ c K 30 14 30 (Rest m ρ c 16) ⊢ run c (kk ⟨⟩) Q) :
    St m ρ c K 30 11 30 (Rest m ρ c 16) ⊢ run c (k0_part31 xM h0 wM h1 oM h2 gM h3 vM h4 cc0_scratch2 cc0_scratch3  >>= kk) Q := by
  rw [k0_part31_eq_skeleton]
  unfold k0_part31_skel
  simp only [Prog.lift, Prog.bind_op, Prog.bind_ret, Prog.pure_eq_ret]
  refine step_wait m ρ 11 (q := sp 11) rfl rfl ?_
  refine step_wait m ρ 12 (q := sp 12) rfl rfl ?_
  refine step_wait m ρ 13 (q := sp 13) rfl rfl ?_
  exact h

/-- Stretch 32: transfers 14, 15, 16 and 17 sent. -/
theorem part32 {kk : PUnit → Prog (TpuEff nD τ sig (Elt F) Λ₀ .tc) A}
    (h : St m ρ c K 30 18 30 (Rest m ρ c 16) ⊢ run c (kk ⟨⟩) Q) :
    St m ρ c K 30 14 30 (Rest m ρ c 16) ⊢ run c (k0_part32 xM h0 wM h1 oM h2 gM h3 vM h4 cc0_scratch2 cc0_scratch3  >>= kk) Q := by
  rw [k0_part32_eq_skeleton]
  unfold k0_part32_skel
  simp only [Prog.lift, Prog.bind_op, Prog.bind_ret, Prog.pure_eq_ret]
  refine step_wait m ρ 14 (q := sp 14) rfl rfl ?_
  refine step_wait m ρ 15 (q := sp 15) rfl rfl ?_
  refine step_wait m ρ 16 (q := sp 16) rfl rfl ?_
  refine step_wait m ρ 17 (q := sp 17) rfl rfl ?_
  exact h

/-- Stretch 33: transfers 18, 19, 20 and 21 sent. -/
theorem part33 {kk : PUnit → Prog (TpuEff nD τ sig (Elt F) Λ₀ .tc) A}
    (h : St m ρ c K 30 22 30 (Rest m ρ c 16) ⊢ run c (kk ⟨⟩) Q) :
    St m ρ c K 30 18 30 (Rest m ρ c 16) ⊢ run c (k0_part33 xM h0 wM h1 oM h2 gM h3 vM h4 cc0_scratch2 cc0_scratch3  >>= kk) Q := by
  rw [k0_part33_eq_skeleton]
  unfold k0_part33_skel
  simp only [Prog.lift, Prog.bind_op, Prog.bind_ret, Prog.pure_eq_ret]
  refine step_wait m ρ 18 (q := sp 18) rfl rfl ?_
  refine step_wait m ρ 19 (q := sp 19) rfl rfl ?_
  refine step_wait m ρ 20 (q := sp 20) rfl rfl ?_
  refine step_wait m ρ 21 (q := sp 21) rfl rfl ?_
  exact h

/-- Stretch 34: transfers 22, 23, 24 and 25 sent. -/
theorem part34 {kk : PUnit → Prog (TpuEff nD τ sig (Elt F) Λ₀ .tc) A}
    (h : St m ρ c K 30 26 30 (Rest m ρ c 16) ⊢ run c (kk ⟨⟩) Q) :
    St m ρ c K 30 22 30 (Rest m ρ c 16) ⊢ run c (k0_part34 xM h0 wM h1 oM h2 gM h3 vM h4 cc0_scratch2 cc0_scratch3  >>= kk) Q := by
  rw [k0_part34_eq_skeleton]
  unfold k0_part34_skel
  simp only [Prog.lift, Prog.bind_op, Prog.bind_ret, Prog.pure_eq_ret]
  refine step_wait m ρ 22 (q := sp 22) rfl rfl ?_
  refine step_wait m ρ 23 (q := sp 23) rfl rfl ?_
  refine step_wait m ρ 24 (q := sp 24) rfl rfl ?_
  refine step_wait m ρ 25 (q := sp 25) rfl rfl ?_
  exact h

/-- Stretch 35: transfers 26, 27 and 28 sent. -/
theorem part35 {kk : PUnit → Prog (TpuEff nD τ sig (Elt F) Λ₀ .tc) A}
    (h : St m ρ c K 30 29 30 (Rest m ρ c 16) ⊢ run c (kk ⟨⟩) Q) :
    St m ρ c K 30 26 30 (Rest m ρ c 16) ⊢ run c (k0_part35 xM h0 wM h1 oM h2 gM h3 vM h4 cc0_scratch2 cc0_scratch3  >>= kk) Q := by
  rw [k0_part35_eq_skeleton]
  unfold k0_part35_skel
  simp only [Prog.lift, Prog.bind_op, Prog.bind_ret, Prog.pure_eq_ret]
  refine step_wait m ρ 26 (q := sp 26) rfl rfl ?_
  refine step_wait m ρ 27 (q := sp 27) rfl rfl ?_
  refine step_wait m ρ 28 (q := sp 28) rfl rfl ?_
  exact h

end Parts

end Cert.RingProof

end
-- ==== Proof.End.lean ====
/-
# What is left at the end

With every transfer started and waited for, the shares of the gathering buffer come together again, every semaphore is
at zero, nothing is owed, and the result buffer holds the result on all its rows.
-/
module

public import proofs.«01_k».proof.Proof.Offsets

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- The transfer that sends on what arrived as transfer `n`. -/
def onw (n : Tx) : Tx := if n.val = 27 then 29 else if h : n.val + 4 < 30 then ⟨n.val + 4, h⟩ else 0

theorem onw_inj : Set.InjOn onw (((Finset.univ : Finset Tx).filter fwd : Finset Tx) : Set Tx) := by
  have h : ∀ a b : Tx, fwd a → fwd b → onw a = onw b → a = b := by decide
  intro a ha b hb
  exact h a b (Finset.mem_filter.mp (Finset.mem_coe.mp ha)).2 (Finset.mem_filter.mp (Finset.mem_coe.mp hb)).2

/-- It reads the right share of the piece that arrived. -/
theorem pay_onw (c : Dev nD) (n : Tx) (h : fwd n) : sendPay m ρ c (onw n) = piece c (dp n) fullShare.right (gath m ρ c) := by
  have h1 : sp (onw n) = dp n := by revert n; decide
  have h2 : shr (onw n) = fullShare.right := by
    have : ¬ ((onw n).val < 4 ∧ (onw n).val % 2 = 1) := by revert n; decide
    exact if_neg this
  unfold sendPay; rw [h1, h2]

/-- What the transfers read: the own pieces, and the right shares of the pieces sent on. -/
theorem sends_split (c : Dev nD) : bigSep Finset.univ (sendPay m ρ c)
    = iprop(((sendPay m ρ c 0 ∗ sendPay m ρ c 1) ∗ (sendPay m ρ c 2 ∗ sendPay m ρ c 3))
      ∗ bigSep (Finset.univ.filter fwd) fun n => piece c (dp n) fullShare.right (gath m ρ c)) := by
  conv_lhs => rw [show (Finset.univ : Finset Tx) = ({0, 1} ∪ {2, 3}) ∪ (Finset.univ.filter fwd).image onw by decide]
  rw [sep_union (by decide), sep_union (by decide),
    sep_insert (by decide), sep_insert (by decide), bigSep_singleton, bigSep_singleton, bigSep_image_of_injOn onw_inj,
    bigSep_congr (s := Finset.univ.filter fwd) fun n hn => pay_onw m ρ c n (Finset.mem_filter.mp hn).2]

/-- What arrived and was not sent on keeps its right shares. -/
theorem kept (c : Dev nD) : (bigSep Finset.univ fun n : Tx => if fwd n then iprop(emp) else piece c (dp n) fullShare.right (gath m ρ c))
    ⊢ bigSep (Finset.univ.filter fun n => ¬ fwd n) fun n => piece c (dp n) fullShare.right (gath m ρ c) := by
  rw [show (Finset.univ : Finset Tx) = Finset.univ.filter fwd ∪ Finset.univ.filter fun n => ¬ fwd n by decide, sep_union (by decide),
    show (Finset.univ.filter fwd ∪ Finset.univ.filter fun n => ¬ fwd n : Finset Tx) = Finset.univ by decide,
    bigSep_congr (s := Finset.univ.filter fun n => ¬ fwd n) (Ψ := fun n => piece c (dp n) fullShare.right (gath m ρ c))
      fun n hn => if_neg (Finset.mem_filter.mp hn).2]
  iintro ⟨-, H⟩; iexact H

/-- The two shares of every piece that arrived make the piece. -/
theorem arrived (c : Dev nD) :
    iprop((bigSep Finset.univ fun n : Tx => piece c (dp n) fullShare.left (gath m ρ c))
      ∗ (bigSep (Finset.univ.filter fwd) fun n => piece c (dp n) fullShare.right (gath m ρ c))
      ∗ (bigSep (Finset.univ.filter fun n => ¬ fwd n) fun n => piece c (dp n) fullShare.right (gath m ρ c)))
    ⊢ bigSep Finset.univ fun n : Tx => piece c (dp n) fullShare (gath m ρ c) := by
  rw [← sep_union (s := Finset.univ.filter fwd) (by decide),
    show (Finset.univ.filter fwd ∪ Finset.univ.filter fun n => ¬ fwd n : Finset Tx) = Finset.univ by decide, ← bigSep_sep']
  exact bigSep_mono fun n _ => (piece_share c (dp n) fullShare (gath m ρ c)).2

/-- What the kernel of device `c` ends with. -/
def Finish (c : Dev nD) : sProp 𝕄 :=
  iprop((∃ W, owes (c : Thread nD τ) 0 W) ∗ semVal (barCell c) 0 ∗ (bigSep Finset.univ fun i => semVal (xCell c i) 0)
    ∗ gAny (F := F) c ∗ (∃ f, vPts (F := F) c f) ∗ xPts m ρ c ∗ wPts m ρ c ∗ (((c : Thread nD τ).loc cc0_stg2_0) ↦{fullShare} outAt m ρ c))

theorem out_end (c : Dev nD) : bigSep Finset.univ (outSt m ρ c 30 30)
    = iprop((bigSep Finset.univ fun n => semVal (sendCell c n) 0) ∗ bigSep Finset.univ (sendPay m ρ c)) := by
  rw [← bigSep_sep']
  exact bigSep_congr fun n _ => if_pos n.isLt
theorem in_end (c : Dev nD) : bigSep Finset.univ (inSt m ρ c 30)
    = iprop((bigSep Finset.univ fun n => semVal (recvCell c n) 0) ∗ (bigSep Finset.univ fun n : Tx => piece c (dp n) fullShare.left (gath m ρ c))
      ∗ (bigSep Finset.univ fun n : Tx => if fwd n then iprop(emp) else piece c (dp n) fullShare.right (gath m ρ c))) := by
  rw [← bigSep_sep', ← bigSep_sep']
  exact bigSep_congr fun n _ => if_pos n.isLt

/-- The whole buffer again. -/
theorem gAny_join (c : Dev nD) :
    iprop((bigSep Finset.univ fun n : Tx => piece c (dp n) fullShare (gath m ρ c))
      ∗ piece c (own 0) fullShare (gath m ρ c) ∗ piece c (own 1) fullShare (gath m ρ c)) ⊢ gAny (F := F) c := by
  have h : iprop((bigSep Finset.univ fun n : Tx => piece c (dp n) fullShare (gath m ρ c))
      ∗ piece c (own 0) fullShare (gath m ρ c) ∗ piece c (own 1) fullShare (gath m ρ c))
      = (((c : Thread nD τ).loc cc0_scratch0) ↦{fullShare} gath m ρ c : sProp 𝕄) := by
    rw [gath_split c (gath m ρ c), show (Finset.univ : Finset (Fin 32)) = Finset.univ.image dp ∪ {own 0, own 1} by decide,
      sep_union (by decide), sep_insert (by decide), bigSep_singleton, bigSep_image_of_injOn dp_injective.injOn]
  rw [h]
  unfold gAny
  iintro H; iexists (gath m ρ c); iexact H

/-- The result buffer, right on everyone's rows, is the result. -/
theorem oPts_end (c : Dev nD) : oPts m ρ c (got c 16) ⊢ (((c : Thread nD τ).loc cc0_stg2_0) ↦{fullShare} outAt m ρ c : sProp 𝕄) := by
  unfold oPts
  iintro ⟨%g, %hg, H⟩
  have e : g = outAt m ρ c := by
    funext i
    exact hg i ⟨((i : S4096x128.Idx) 0).val / 256, Nat.div_lt_of_lt_mul ((i : S4096x128.Idx) 0).isLt⟩ (got_all c _) rfl
  subst e
  iexact H

theorem finish (c : Dev nD) (K : Dev nD × CI → ℕ) : St m ρ c K 30 30 30 (Rest m ρ c 16) ⊢ Finish m ρ c := by
  unfold St Rest zeros
  rw [out_end, in_end, sends_split, Ow_end,
    show sendPay m ρ c 0 = piece c (own 0) fullShare.right (gath m ρ c) from rfl,
    show sendPay m ρ c 1 = piece c (own 0) fullShare.left.right (gath m ρ c) from rfl,
    show sendPay m ρ c 2 = piece c (own 1) fullShare.right (gath m ρ c) from rfl,
    show sendPay m ρ c 3 = piece c (own 1) fullShare.left.right (gath m ρ c) from rfl]
  unfold Finish
  rw [bigSep_xsem (fun i => semVal (xCell c i) 0)]
  iintro ⟨-, -, HO, ⟨Hs, ⟨⟨S0, S1⟩, S2, S3⟩, Hon⟩, ⟨Hr, Hl, Hk⟩, M0, M1, Hx, Hw, Hv, Ho, Hz, Hi⟩
  isplitl [HO]; · iexact HO
  isplitl [Hz]; · iexact Hz
  isplitl [Hs Hr Hi]
  · isplitl [Hs]; · iexact Hs
    isplitl [Hr] <;> iassumption
  isplitl [S0 S1 S2 S3 Hon Hl Hk M0 M1]
  · iapply (gAny_join m ρ c)
    isplitl [Hon Hl Hk]
    · iapply (arrived m ρ c)
      isplitl [Hl]; · iexact Hl
      isplitl [Hon]; · iexact Hon
      iapply (kept m ρ c); iexact Hk
    isplitl [S0 S1 M0]
    · iapply (mine_join m ρ c 0)
      isplitl [S0]; · iexact S0
      isplitl [S1] <;> iassumption
    iapply (mine_join m ρ c 1)
    isplitl [S2]; · iexact S2
    isplitl [S3] <;> iassumption
  isplitl [Hv]; · iexists _; iexact Hv
  isplitl [Hx]; · iexact Hx
  isplitl [Hw]; · iexact Hw
  iapply (oPts_end m ρ c); iexact Ho

end Cert.RingProof

end
-- ==== Proof.Run.lean ====
/-
# The kernel of one device

The stretches one after the other: from what a device's kernel begins with to what it ends with.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.End

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ UU ℕ

variable (m : (ℓ : Loc nD τ sig) → Buf (Elt F) ℓ) (ρ : Dev nD → PrngReg)

/-- The kernel of device `c`, from beginning to end. -/
theorem kernel_run {h0 : xM.IsWhole} {h1 : wM.IsWhole} {h2 : oM.IsWhole} {h3 : gM.IsWhole} {h4 : vM.IsWhole}
    (c : Dev nD) (K : Dev nD × CI → ℕ) (Q : PUnit → sProp 𝕄) (hQ : Finish m ρ c ⊢ Q ⟨⟩) :
    Begin m ρ c K ⊢ run c (cc0_body xM h0 wM h1 oM h2 gM h3 vM h4 cc0_scratch2 cc0_scratch3) Q := by
  rw [cc0_body_eq_skeleton]
  unfold cc0_body_skel
  refine part1 m ρ (fun _ _ _ => ?_)
  refine part2 m ρ _ _ ?_
  refine part3 m ρ _ _ _ ?_
  refine part4 m ρ _ _ ?_
  refine part5 m ρ _ _ ?_
  refine part6 m ρ _ _ (fun _ _ hv => ?_)
  refine part7 m ρ _ _ _ _ hv ?_
  refine part8 m ρ _ _ ?_
  refine part9 m ρ _ _ (fun _ => ?_)
  refine part10 m ρ _ _ _ (fun _ => ?_)
  refine part11 m ρ _ _ _ ?_
  refine part12 m ρ _ _ (fun _ => ?_)
  refine part13 m ρ _ _ _ (fun _ hv => ?_)
  refine part14 m ρ _ _ _ hv ?_
  refine part15 m ρ _ _ ?_
  refine part16 m ρ _ _ (fun _ _ hv => ?_)
  refine part17 m ρ _ _ _ _ hv ?_
  refine part18 m ρ _ _ ?_
  refine part19 m ρ _ _ ?_
  refine part20 m ρ _ _ (fun _ => ?_)
  refine part21 m ρ _ _ _ (fun _ _ => ?_)
  refine part22 m ρ _ _ _ _ (fun _ => ?_)
  refine part23 m ρ _ _ _ (fun _ => ?_)
  refine part24 m ρ _ _ ?_
  refine part25 m ρ _ _ ?_
  refine part26 m ρ _ _ (fun _ _ hv => ?_)
  refine part27 m ρ _ _ _ _ _ hv (fun _ hv => ?_)
  refine part28 m ρ _ hv ?_
  refine part29 m ρ ?_
  refine part30 m ρ ?_
  refine part31 m ρ ?_
  refine part32 m ρ ?_
  refine part33 m ρ ?_
  refine part34 m ρ ?_
  refine part35 m ρ ?_
  simp only [Prog.lift, Prog.bind_op, Prog.bind_ret, Prog.pure_eq_ret]
  refine step_wait m ρ 29 (q := sp 29) rfl rfl ?_
  have h := (finish m ρ c K).trans hQ
  unfold run
  rw [wp_ret]
  iintro H
  imodintro
  iapply h; iexact H

end Cert.RingProof

end
-- ==== Proof.Body.lean ====
/-
# The kernel among the launch's buffers

The launch stages the two operands before the kernel and writes the result back after it: what it holds at either end
for each device, and that the kernel takes one to the other.
-/
module

public import proofs.«01_k».proof.Proof.Run

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ UU ℕ

variable (m : (ℓ : Loc nD τ sig) → Buf (Elt F) ℓ) (ρ : Dev nD → PrngReg)

/-- The tokens device `c` pays with and its places at its own semaphores. -/
def hand (c : Dev nD) : sProp 𝕄 :=
  iprop((dutyTok ER (barCell (lt c)) 0 true ∗ dutyTok ER (barCell (rt c)) 0 false ∗ atPos ER (barCell c) 0 ∅ 0)
    ∗ bigSep Finset.univ (toks (F := F) c) ∗ (bigSep Finset.univ fun n : Tx => atPos ER (recvCell c n) 0 ∅ 0) ∗ bigSep idle fun i => atPos ER (xCell c i) 0 ∅ 0)

/-- The credit on its barrier and on its receiving semaphores. -/
def credit (c : Dev nD) : sProp 𝕄 :=
  iprop(cred (tallyAt (barCell c) () 2) ∗ bigSep Finset.univ fun n : Tx => cred (tallyAt (recvCell c n) () N))

/-- What device `c` brings to its kernel beside buffers. -/
def start (c : Dev nD) : sProp 𝕄 := iprop((∃ K, records m ρ K ∗ hand (F := F) c) ∗ credit (F := F) c ∗ levAts L lv)

/-- Before the kernel: that, and the two scratch buffers. -/
def Φ₀ (c : Dev nD) : sProp 𝕄 := iprop(start m ρ c ∗ gAny (F := F) c ∗ ∃ f, vPts (F := F) c f)
/-- After it: every semaphore at zero, and the scratch buffers. -/
def Φ₁ (c : Dev nD) : sProp 𝕄 :=
  iprop(semVal (barCell c) 0 ∗ (bigSep Finset.univ fun i => semVal (xCell c i) 0) ∗ gAny (F := F) c ∗ ∃ f, vPts (F := F) c f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- Buffer `b` whole, holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (xstg m ρ c) ∗ stg c cc0_stg1_0 (wstg m ρ c) ∗ stg c cc0_stg2_0 (outAt m ρ c))

/-- What the launch holds before the kernel is what the kernel begins with. -/
theorem enter (c : Dev nD) : bodyPre m ρ c ⊢ iprop(∃ K, Begin m ρ c K) := by
  have hdue : iprop((bigSep Finset.univ fun n : Tx => cred (tallyAt (recvCell c n) () N)) ∗ (bigSep Finset.univ fun n : Tx => atPos ER (recvCell c n) 0 ∅ 0))
      = bigSep Finset.univ (due (F := F) c) := by
    rw [← bigSep_sep']; rfl
  unfold bodyPre Φ₀ start hand credit
  iintro ⟨⟨⟨⟨%K, #Hrec, ⟨HtL, HtR, Hat⟩, Htoks, Hrat, Hidle⟩, ⟨Hcb, Hcr⟩, #Hlev⟩, Hg, Hv⟩, Ho, ⟨%d0, %g0, %hg0, Hx⟩, ⟨%d1, %g1, %hg1, Hw⟩, ⟨%d2, %g2, %hg2, Hout⟩⟩
  have hx : g0 = xstg m ρ c := by rw [hg0]; unfold Dat.before; rw [if_pos (fetch0_0 t0_0)]; rfl
  have hw : g1 = wstg m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  iexists K
  unfold Begin
  isplitr; · iexact Hrec
  isplitr; · iexact Hlev
  isplitl [HO]; · iexists W; iexact HO
  isplitl [HtL HtR Hat Hcb]
  · isplitl [HtL]; · iexact HtL
    isplitl [HtR]; · iexact HtR
    isplitl [Hat] <;> iassumption
  isplitl [Htoks]; · iexact Htoks
  isplitl [Hcr Hrat]
  · iapply (Entails.of_eq hdue)
    isplitl [Hcr] <;> iassumption
  isplitl [Hidle]; · iexact Hidle
  isplitl [Hg]; · iexact Hg
  isplitl [Hv]; · iexact Hv
  isplitl [Hx]; · unfold xPts; iexact Hx
  isplitl [Hw]; · unfold wPts; iexact Hw
  unfold oPts
  iexists g2
  isplitr
  · ipureintro; intro i d hd; rw [got_zero] at hd; exact absurd hd (Finset.notMem_empty d)
  iexact Hout

/-- What the kernel ends with is what the launch goes on with. -/
theorem leave (c : Dev nD) : Finish m ρ c ⊢ bodyPost m ρ c := by
  unfold Finish bodyPost Φ₁ xPts wPts Dat.owesAt Pipeline.owesWithin
  rw [show (dats m ρ 0 c).owed t0_0.succ = 0 from rfl]
  iintro ⟨⟨%W, HO⟩, Hz, Hzs, Hg, Hv, Hx, Hw, Ho⟩
  isplitl [Hz Hzs Hg Hv]
  · isplitl [Hz]; · iexact Hz
    isplitl [Hzs]; · iexact Hzs
    isplitl [Hg] <;> iassumption
  isplitl [HO]
  · iexists W
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Ho

set_option maxRecDepth 100000 in
/-- The kernel takes what the launch holds before it to what it holds after it. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show bodyPre m ρ c ⊢ run c (cc0_body xM (Memref.isWhole_whole _) wM (Memref.isWhole_whole _) oM (Memref.isWhole_whole _)
    gM (Memref.isWhole_whole _) vM (Memref.isWhole_whole _) cc0_scratch2 cc0_scratch3) (fun _ => bodyPost m ρ c)
  iintro H
  ihave H' := (enter m ρ c) $$ H
  icases H' with ⟨%K, HB⟩
  iapply (kernel_run m ρ c K (fun _ => bodyPost m ρ c) (leave m ρ c))
  iexact HB

end Cert.RingProof

end
-- ==== Proof.Deal.lean ====
/-
# Dealing the ring's ghost state to the devices

Every semaphore's round starts at zero, and each device gets its places at its own semaphores. The tokens are minted at
the semaphore they pay and dealt to the device that pays them: a neighbour for the barrier's two, the sender for a
transfer's two. The credit on a semaphore is what the devices together owe it.
-/
module

public import proofs.«01_k».proof.Proof.Body

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ UU ℕ

variable (m : (ℓ : Loc nD τ sig) → Buf (Elt F) ℓ) (ρ : Dev nD → PrngReg)

/-! ## The semaphores and the tokens -/

theorem csem_injective : Function.Injective csem := by
  rintro (_ | i) (_ | j) h
  · rfl
  · exact nomatch h
  · exact nomatch h
  · exact congrArg _ (xsem_injective (SemLoc.dma.inj h))

theorem kcell_injective : Function.Injective kcell := fun ⟨c, k⟩ ⟨c', k'⟩ h => by
  have hc : c = c' := congrArg (fun g : GSem nD τ sig => g.1.1) h
  exact Prod.ext hc (csem_injective (congrArg Prod.snd h))

/-- The ring's semaphores. -/
def ringCells : Finset (GSem nD τ sig) := Finset.univ.map ⟨kcell, kcell_injective⟩

/-- The tokens of a device's semaphores: the barrier's two, and one for each sending and each receiving semaphore in use. -/
abbrev TI : Type := Bool ⊕ (Tx ⊕ Tx)
/-- The semaphore a token belongs to, and the duty it stands for. -/
def tokSem : TI → CI × Bool
  | .inl d => (.inl (), d)
  | .inr (.inl n) => (.inr (sI n), false)
  | .inr (.inr n) => (.inr (rI n), false)

theorem tokSem_injective : Function.Injective tokSem := by
  have hs : ∀ a b : Tx, sI a ≠ rI b := by decide
  rintro (d | a | a) (d' | b | b) h <;> simp only [tokSem, Prod.mk.injEq, Sum.inr.injEq, reduceCtorEq, false_and, true_and, and_true] at h
  · exact congrArg _ h
  · exact congrArg _ (congrArg _ (sI_injective h))
  · exact absurd h (hs a b)
  · exact absurd h.symm (hs b a)
  · exact congrArg _ (congrArg _ (rI_injective h))

def tokOf (ct : Dev nD × TI) : GSem nD τ sig × ℕ × Bool := (kcell (ct.1, (tokSem ct.2).1), 0, (tokSem ct.2).2)
theorem tokOf_injective : Function.Injective tokOf := fun ⟨c, t⟩ ⟨c', t'⟩ h => by
  have h1 := kcell_injective (congrArg Prod.fst h)
  have h2 : (tokSem t).2 = (tokSem t').2 := congrArg (fun x => x.2.2) h
  have hc : c = c' := congrArg Prod.fst h1
  exact Prod.ext hc (tokSem_injective (Prod.ext (congrArg Prod.snd h1) h2))
def ringToks : Finset (GSem nD τ sig × ℕ × Bool) := Finset.univ.map ⟨tokOf, tokOf_injective⟩

/-- The tokens of device `c`'s own semaphores. -/
def minted (c : Dev nD) : sProp 𝕄 :=
  iprop((dutyTok ER (barCell c) 0 false ∗ dutyTok ER (barCell c) 0 true)
    ∗ (bigSep Finset.univ fun n => dutyTok ER (sendCell c n) 0 false) ∗ bigSep Finset.univ fun n => dutyTok ER (recvCell c n) 0 false)
/-- The tokens device `c` pays with. -/
def dealt (c : Dev nD) : sProp 𝕄 :=
  iprop((dutyTok ER (barCell (rt c)) 0 false ∗ dutyTok ER (barCell (lt c)) 0 true)
    ∗ (bigSep Finset.univ fun n => dutyTok ER (sendCell c n) 0 false) ∗ bigSep Finset.univ fun n => dutyTok ER (recvCell (nb n c) n) 0 false)

/-- Which semaphore a device's transfers arrive at, seen from either end. -/
def cross : Dev nD × Tx ≃ Dev nD × Tx :=
  ⟨fun p => (nb p.2 p.1, p.2), fun p => (bn p.2 p.1, p.2), fun p => Prod.ext (bn_nb p.2 p.1) rfl, fun p => Prod.ext (nb_bn p.2 p.1) rfl⟩

/-- Minted at the receivers, dealt to the payers: the same tokens. -/
theorem minted_dealt : bigSep Finset.univ (minted (F := F)) = bigSep Finset.univ (dealt (F := F)) := by
  unfold minted dealt
  simp only [bigSep_sep']
  rw [bigSep_univ_equiv turn (fun c : Dev nD => (dutyTok ER (barCell c) 0 false : sProp 𝕄)),
    bigSep_univ_equiv turn.symm (fun c : Dev nD => (dutyTok ER (barCell c) 0 true : sProp 𝕄)),
    ← bigSep_univ_prod (fun p : Dev nD × Tx => (dutyTok ER (recvCell p.1 p.2) 0 false : sProp 𝕄)),
    bigSep_univ_equiv cross (fun p : Dev nD × Tx => (dutyTok ER (recvCell p.1 p.2) 0 false : sProp 𝕄)),
    bigSep_univ_prod]
  rfl

/-- The tokens of one device, as minted. -/
theorem minted_eq (c : Dev nD) : (bigSep Finset.univ fun t : TI => (dutyTok ER (tokOf (c, t)).1 (tokOf (c, t)).2.1 (tokOf (c, t)).2.2 : sProp 𝕄)) = minted c := by
  rw [BI.bigSep_univ_sum, BI.bigSep_univ_sum, bigSep_univ_eq_bigSepL [false, true] (by decide) (by decide), bigSepL_cons_cons, bigSepL_singleton]
  rfl

/-! ## What the launch makes of them -/

/-- The initial ghost state: the pipeline's, and the ring's. -/
def u₀ : UU := (initOf (Pipeline.cells cfgs cellOf_inj) (Pipeline.launchToks cfgs cellOf_inj), initOf ringCells ringToks)

/-- A device's share of the ring's. -/
def G (c : Dev nD) : sProp 𝕄 :=
  iprop((bigSep Finset.univ fun k : CI => roundState ER (rd m ρ) (kcell (c, k)) 0)
    ∗ ((bigSep Finset.univ fun k : CI => atPos ER (kcell (c, k)) 0 ∅ 0) ∗ bigSep Finset.univ fun k : CI => reached ER (kcell (c, k)) 0)
    ∗ minted (F := F) c)
/-- And after the semaphores are handed over. -/
def G' (c : Dev nD) : sProp 𝕄 := iprop(∃ K, records m ρ K ∗ hand (F := F) c)

theorem cells_eq (Φ : GSem nD τ sig → sProp 𝕄) :
    bigSep ringCells Φ = bigSep Finset.univ fun c : Dev nD => bigSep Finset.univ fun k : CI => Φ (kcell (c, k)) := by
  unfold ringCells; rw [bigSep_map, bigSep_univ_prod]; rfl
theorem toks_eq : bigSep ringToks (fun x => (dutyTok ER x.1 x.2.1 x.2.2 : sProp 𝕄)) = bigSep Finset.univ (minted (F := F)) := by
  unfold ringToks
  rw [bigSep_map, bigSep_univ_prod]
  exact bigSep_congr fun c _ => minted_eq c

/-- The ring's ghost state, dealt. -/
theorem fund_ring : BI.own (ER (initOf ringCells ringToks)) ⊢ (|==> bigSep Finset.univ (G m ρ) : sProp 𝕄) := by
  iintro HX
  imod (Rounds.fund ER (rd m ρ) ringCells ringToks) $$ HX with ⟨Hst, Hr, Hat, Htok⟩
  imodintro
  ihave Hst' := (Entails.of_eq (cells_eq fun g => roundState ER (rd m ρ) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq (toks_eq (F := F))) $$ Htok
  unfold G; simp only [bigSep_sep']
  isplitl [Hst']; · iexact Hst'
  isplitl [Hat' Hr']
  · isplitl [Hat'] <;> iassumption
  iexact Htok'

/-! ## The semaphores -/

theorem ownSems_eq (c : Dev nD) : (Pipeline.ownSems0 (Ix := Unit) (Name := ℕ) (U := UU) (Lvl := ℕ) (Val := Elt F) (τ := τ) osem c : sProp 𝕄)
    = bigSep Finset.univ fun i => semVal (xCell c i) 0 := rfl
theorem restSems_eq (c : Dev nD) : (unscopedSems0 c : sProp 𝕄) = semVal (barCell c) 0 := by
  unfold unscopedSems0; rw [bigSep_eq_bigSepL_of_eq [SemLoc.reg barS] (by decide) (by decide)]; rfl

theorem ksems_eq (c : Dev nD) : (bigSep Finset.univ fun k : CI => (semVal (kcell (c, k)) 0 : sProp 𝕄))
    = iprop(semVal (barCell c) 0 ∗ bigSep Finset.univ fun i => semVal (xCell c i) 0) := by
  rw [BI.bigSep_univ_sum, BI.bigSep_univ_of_subsingleton ()]
  rfl

/-- One device's semaphores put under their invariants. -/
theorem alloc_one (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ ((bigSep Finset.univ fun k : CI => atPos ER (kcell (c, k)) 0 ∅ 0) ∗ bigSep Finset.univ fun k : CI => reached ER (kcell (c, k)) 0)
          ∗ minted (F := F) c) := by
  have hinv : iprop((bigSep Finset.univ fun k : CI => semVal (kcell (c, k)) 0) ∗ bigSep Finset.univ fun k : CI => roundState ER (rd m ρ) (kcell (c, k)) 0)
      ⊢ (|={Set.univ}=> bigSep Finset.univ fun k => iprop(∃ κ : ℕ, cellInv ER (rd m ρ) κ (kcell (c, k))) : sProp 𝕄) := by
    rw [← bigSep_sep']
    exact (bigSep_mono fun k _ => (Rounds.body_intro ER (rd m ρ) (kcell (c, k))).trans inv_alloc).trans (bigSep_fupd _ _)
  unfold G
  rw [ownSems_eq, restSems_eq]
  iintro ⟨Hos, Hus, Hst, Hat, Htok⟩
  imod hinv $$ [Hos Hus Hst] with Hinv
  · isplitl [Hos Hus]
    · iapply (Entails.of_eq (ksems_eq (F := F) c).symm)
      isplitl [Hus] <;> iassumption
    iexact Hst
  imodintro
  isplitl [Hinv]; · iexact Hinv
  isplitl [Hat] <;> iassumption

/-- A device's places and the tokens dealt to it are its hand. -/
theorem hand_intro (c : Dev nD) : iprop((bigSep Finset.univ fun k : CI => (atPos ER (kcell (c, k)) 0 ∅ 0 : sProp 𝕄)) ∗ dealt c) ⊢ hand c := by
  rw [BI.bigSep_univ_sum, BI.bigSep_univ_of_subsingleton (), bigSep_xsem]
  show iprop((atPos ER (barCell c) 0 ∅ 0 ∗ (bigSep Finset.univ fun n => atPos ER (sendCell c n) 0 ∅ 0)
    ∗ (bigSep Finset.univ fun n => atPos ER (recvCell c n) 0 ∅ 0) ∗ bigSep idle fun i => atPos ER (xCell c i) 0 ∅ 0) ∗ dealt c) ⊢ hand c
  unfold dealt hand toks
  simp only [bigSep_sep']
  iintro ⟨⟨Ab, As, Ar, Ai⟩, ⟨Tf, Tt⟩, Ts, Tr⟩
  isplitl [Tt Tf Ab]
  · isplitl [Tt]; · iexact Tt
    isplitl [Tf] <;> iassumption
  isplitl [Ts Tr As]
  · isplitl [Ts]; · iexact Ts
    isplitl [Tr] <;> iassumption
  isplitl [Ar] <;> iassumption

/-- What all devices keep on record goes to every one of them. -/
theorem share_out {R : sProp (MT nD τ sig Unit (Elt F) ℕ UU ℕ)} [BI.Persistent R] {Φ Ψ : Dev nD → sProp 𝕄}
    (h : ∀ c, iprop(R ∗ Φ c) ⊢ Ψ c) : iprop(R ∗ bigSep Finset.univ Φ) ⊢ bigSep Finset.univ Ψ := by
  have h1 : iprop((bigSep Finset.univ fun _ : Dev nD => R) ∗ bigSep Finset.univ Φ) ⊢ bigSep Finset.univ Ψ := by
    rw [← bigSep_sep']; exact bigSep_mono fun c _ => h c
  exact (sep_mono_left (BI.bigSep_of_persistent Finset.univ R)).trans h1

/-- Every device's invariants on record for all, and to each its hand. -/
theorem regroup :
    (bigSep Finset.univ fun c : Dev nD => iprop((bigSep Finset.univ fun k => iprop(∃ κ : ℕ, cellInv ER (rd m ρ) κ (kcell (c, k))))
          ∗ ((bigSep Finset.univ fun k : CI => atPos ER (kcell (c, k)) 0 ∅ 0) ∗ bigSep Finset.univ fun k : CI => reached ER (kcell (c, k)) 0)
          ∗ minted (F := F) c))
      ⊢ bigSep Finset.univ (G' m ρ) := by
  have hh : iprop((bigSep Finset.univ fun c : Dev nD => bigSep Finset.univ fun k : CI => (atPos ER (kcell (c, k)) 0 ∅ 0 : sProp 𝕄)) ∗ bigSep Finset.univ (dealt (F := F)))
      ⊢ bigSep Finset.univ (hand (F := F)) := by
    rw [← bigSep_sep']; exact bigSep_mono fun c _ => hand_intro c
  have hg : ∀ K, ∀ c : Dev nD, iprop(records m ρ K ∗ hand c) ⊢ G' m ρ c := fun K c => by
    unfold G'; iintro H; iexists K; iexact H
  rw [bigSep_sep', bigSep_sep', bigSep_sep', minted_dealt, ← bigSep_univ_prod (fun ck : Dev nD × CI => iprop(∃ κ : ℕ, cellInv ER (rd m ρ) κ (kcell ck))),
    ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI'⟩
  iapply (share_out (R := records m ρ K) (hg K))
  isplitr
  · unfold records; isplitl; · iexact HI'
    iexact HR
  iapply hh
  isplitl [Hat] <;> iassumption

/-- All devices' semaphores and shares become every device's part in the ring. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc_one m ρ c).trans (bigSep_fupd _ _)).trans (BI.fupd_mono (regroup m ρ))

/-! ## The credit -/

theorem cell_ne {c d : Dev nD} {a b : SemLoc sig} (h : a ≠ b) : ((c : Thread nD τ), a) ≠ ((d : Thread nD τ), b) := fun e => h (congrArg Prod.snd e)
theorem bar_ne (i : Fin 64) : (SemLoc.reg barS : SemLoc sig) ≠ osem i := nofun
theorem bar_inj {c d : Dev nD} (h : barCell c = barCell d) : c = d := congrArg (fun g : GSem nD τ sig => g.1.1) h
theorem recv_inj {c d : Dev nD} {n k : Tx} (h : recvCell c n = recvCell d k) : c = d ∧ n = k := by
  have h1 : (⟨c, .inr (rI n)⟩ : Dev nD × CI) = ⟨d, .inr (rI k)⟩ := kcell_injective h
  exact ⟨congrArg Prod.fst h1, rI_injective (Sum.inr.inj (congrArg Prod.snd h1))⟩

/-- A device's transfers are due at no barrier; -/
theorem Ow_bar (d c : Dev nD) : Ow d 0 (barCell c) () = 0 := by
  by_contra h
  obtain ⟨n, -, hn⟩ := Ow_pos (Nat.pos_of_ne_zero h)
  exact cell_ne (bar_ne _) hn
/-- and at device `c`'s receiving semaphore of transfer `n` only from the one device that addresses `c` by it. -/
theorem Ow_recv (d c : Dev nD) (n : Tx) : Ow d 0 (recvCell c n) () = if d = bn n c then N else 0 := by
  unfold Ow
  rw [Finset.sum_apply, Finsupp.finsetSum_apply]
  have h1 : ∀ k : Tx, tallyAt (Ix := Unit) (recvCell (nb k d) k) () N (recvCell c n) () = if k = n then (if d = bn n c then N else 0) else 0 := fun k => by
    rw [tallyAt_apply]
    by_cases hk : k = n
    · subst hk
      rw [if_pos rfl]
      by_cases hd : d = bn k c
      · subst hd; rw [nb_bn, if_pos ⟨rfl, rfl⟩, if_pos rfl]
      · rw [if_neg hd, if_neg]
        rintro ⟨h, -⟩
        exact hd (by rw [(recv_inj h).1, bn_nb])
    · rw [if_neg hk, if_neg]
      rintro ⟨h, -⟩
      exact hk (recv_inj h).2.symm
  rw [Finset.sum_congr rfl fun k _ => h1 k, Finset.sum_ite_eq' _ n, if_pos (Finset.mem_filter.mpr ⟨Finset.mem_univ n, Nat.zero_le n.val⟩)]

theorem owed_bar (d c : Dev nD) : O₀ d (barCell c) () = (if d = lt c then 1 else 0) + (if d = rt c then 1 else 0) := by
  show Ow d 0 (barCell c) () + tallyAt (barCell (rt d)) () 1 (barCell c) () + tallyAt (barCell (lt d)) () 1 (barCell c) () = _
  rw [Ow_bar, Nat.zero_add, tallyAt_apply, tallyAt_apply]
  congr 1
  · by_cases h : d = lt c
    · subst h; rw [rt_lt, if_pos ⟨rfl, rfl⟩, if_pos rfl]
    · rw [if_neg h, if_neg]; rintro ⟨e, -⟩; exact h (by rw [bar_inj e, lt_rt])
  · by_cases h : d = rt c
    · subst h; rw [lt_rt, if_pos ⟨rfl, rfl⟩, if_pos rfl]
    · rw [if_neg h, if_neg]; rintro ⟨e, -⟩; exact h (by rw [bar_inj e, rt_lt])
theorem owed_recv (d c : Dev nD) (n : Tx) : O₀ d (recvCell c n) () = if d = bn n c then N else 0 := by
  show Ow d 0 (recvCell c n) () + tallyAt (barCell (rt d)) () 1 (recvCell c n) () + tallyAt (barCell (lt d)) () 1 (recvCell c n) () = _
  rw [Ow_recv, tallyAt_ne_cell (cell_ne (bar_ne _).symm), tallyAt_ne_cell (cell_ne (bar_ne _).symm)]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lt c) fun _ => 1, Finset.sum_ite_eq' Finset.univ (rt c) fun _ => 1, if_pos (Finset.mem_univ _), if_pos (Finset.mem_univ _)]
theorem launch_recv (c : Dev nD) (n : Tx) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n, Finset.sum_ite_eq' Finset.univ (bn n c) fun _ => N,
    if_pos (Finset.mem_univ _)]

/-- The launch's credit on a device's semaphores holds the credit its kernel waits with. -/
theorem credit_intro (c : Dev nD) : (Pipeline.launchCred O₀ c : sProp 𝕄) ⊢ credit c := by
  have hinj : Function.Injective fun n : Tx => osem (rI n) := fun a b h => rI_injective (xsem_injective (SemLoc.dma.inj h))
  have hbar : SemLoc.reg barS ∉ (Finset.univ : Finset Tx).image fun n => osem (rI n) := fun h => by
    obtain ⟨n, -, hn⟩ := Finset.mem_image.mp h
    exact bar_ne _ hn.symm
  unfold Pipeline.launchCred credit
  rw [← Finset.union_sdiff_of_subset (Finset.subset_univ (insert (SemLoc.reg barS) ((Finset.univ : Finset Tx).image fun n => osem (rI n)))),
    sep_union Finset.disjoint_sdiff, sep_insert hbar, bigSep_image_of_injOn hinj.injOn, launch_bar]
  simp only [launch_recv]
  iintro ⟨H, -⟩
  iexact H

end Cert.RingProof

end
-- ==== Proof.Launch.lean ====
/-
# The launch

The sixteen devices are launched together from any memory with all semaphores at zero: every execution ends, with every
semaphore at zero again, the operands as they were and every device's result computed.
-/
module

public import proofs.«01_k».proof.Proof.Deal
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ UU ℕ

variable (m : (ℓ : Loc nD τ sig) → Buf (Elt F) ℓ) (ρ : Dev nD → PrngReg)

/-- The kernel's transfer semaphores are none of the launch's. -/
theorem ownSemFacts : Pipeline.OwnSemFacts cfg0.spec osem := ⟨by decide, fun a b h => xsem_injective (SemLoc.dma.inj h), by decide⟩

theorem share_eq (c : Dev nD) (w : Fin cfg0.W) : (dats m ρ 0 c).share w = fullShare := by unfold Dat.share; split <;> rfl

/-- What the launch deals a device is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (credit_intro (F := F) c) $$ Hcr
  imodintro
  unfold start G'
  isplitl
  · isplitl [HG]; · iexact HG
    isplitl [Hc] <;> iassumption
  · iempintro

/-- With its scratch buffers that is what it holds before the kernel. -/
theorem before_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ gAny vPts
  iintro ⟨Hs, -, Hg, Hv⟩
  isplitl [Hs]; · iexact Hs
  isplitl [Hg] <;> iassumption

/-- After the kernel it gives its semaphores and scratch buffers back. -/
theorem after_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems_eq, restSems_eq]
  unfold Φ₁ gAny vPts
  iintro ⟨Hb, Hx, Hg, Hv⟩
  isplitl [Hb]; · iexact Hb
  isplitl [Hx]; · iexact Hx
  isplitl [Hg] <;> iassumption

/-- Every wait of the launch's own staging is below what its device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What the array of window `w` holds on device `c` after the launch. -/
def finalA (c : Dev nD) (w : Fin cfg0.W) : Buf (Elt F) ((cfg0.win w).arr.view.loc (c : Thread nD τ)) := (dats m ρ 0 c).arrAt w cfg0.N

/-- Every device's arrays hold that. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values: every execution of the sixteen devices from a memory with all semaphores at zero ends, with
    every semaphore at zero and every array as `finalA` has it. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (unscopedSems0_read (X := unscopedSems0 c) (c := c) fupd_intro s')
      isplitl [Hu] <;> iassumption)
    (hQ := fun _ h hs => ⟨fun c w => (h c).1 w, sem_eq_zero hs fun c => (h c).2.2⟩)

/-- The launch leaves `x` as it was, -/
theorem finalA_x (c : Dev nD) : finalA m ρ c (0 : Fin 3) = (s₀ m ρ).mem (win0_0.arr.view.loc (c : Thread nD τ)) :=
  (dats (F := F) m ρ 0 c).arrAt_in (0 : Fin 3) rfl _
/-- and the weights too. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Arrays.lean ====
/-
# The staged blocks are the arrays

Each of the kernel's three windows has one block, the device's whole array: what is staged is the array, and what is
written back is the whole result.
-/
module

public import proofs.«01_k».proof.Proof.Launch

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]
local notation "𝕄" => MT nD τ sig Unit (Elt F) ℕ UU ℕ

variable (m : (ℓ : Loc nD τ sig) → Buf (Elt F) ℓ) (ρ : Dev nD → PrngReg)

/-- Reading the only block of `x`'s window reads the device's array. -/
theorem read_x (f : (main_arg0 : Ref sig .tc).ty.Contents (Elt F)) : (win0_0.blk (0 : Fin 1)).view.read (Elt F) f = f :=
  Memref.read_access_unit_zero (Elt F) main_arg0 (off := fun a => win0_0.index (0 : Fin 1) a * main_arg0.ty.shape.size a)
    (funext fun a => by fin_cases a <;> decide) (fun a => by fin_cases a <;> decide) f
/-- The same of the weights' window, -/
theorem read_w (f : (main_arg1 : Ref sig .tc).ty.Contents (Elt F)) : (win0_1.blk (0 : Fin 1)).view.read (Elt F) f = f :=
  Memref.read_access_unit_zero (Elt F) main_arg1 (off := fun a => win0_1.index (0 : Fin 1) a * main_arg1.ty.shape.size a)
    (funext fun a => by fin_cases a <;> decide) (fun a => by fin_cases a <;> decide) f
/-- and of the result's. -/
theorem read_o (f : (main_v1 : Ref sig .tc).ty.Contents (Elt F)) : (win0_2.blk (0 : Fin 1)).view.read (Elt F) f = f :=
  Memref.read_access_unit_zero (Elt F) main_v1 (off := fun a => win0_2.index (0 : Fin 1) a * main_v1.ty.shape.size a)
    (funext fun a => by fin_cases a <;> decide) (fun a => by fin_cases a <;> decide) f

theorem xstg_eq (c : Dev nD) : xstg m ρ c = m ((c : Thread nD τ).loc main_arg0) := read_x _
theorem wstg_eq (c : Dev nD) : wstg m ρ c = m ((c : Thread nD τ).loc main_arg1) := read_w _

/-- The result array of device `c` ends as the kernel left the staged result. -/
theorem finalA_o (c : Dev nD) : finalA m ρ c (2 : Fin 3) = outAt m ρ c := by
  refine (read_o (F := F) _).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from by decide, if_pos rfl]
  exact View.read_write_univ _ _

end Cert.RingProof

end
-- ==== Proof.Result.lean ====
/-
# The result against the reference

The reference's two changes of format are the identity at exact values, so it ends with the product of the whole arrays.
Row `r` of device `c`'s result is row `r % 256` of the block of device `r / 256` times `c`'s columns: the same sum as
the whole product's at row `r` and the column `c`'s block puts there.
-/
module

public import proofs.«01_k».proof.Proof.Product
public import proofs.«01_k».proof.Proof.Arrays
public import Idealize.ShloMosaic.Lib.Layout

@[expose] public section

noncomputable section

namespace Cert.RingProof

open Idealize.ShloMosaic hiding ix2
open Idealize.ShloMosaic.ValueIdx Idealize.ShloMosaic.StackMember
open scoped BigOperators

open Cert.KernelIdeal

/-- The product of the whole arrays, with the reference's roundings. -/
def refOut (X : FVec Ideal ReferenceIdeal.S4096x4096 .bf16) (W : FVec Ideal ReferenceIdeal.S4096x2048 .bf16) : FVec Ideal ReferenceIdeal.S4096x2048 .f32 :=
  extf .f32 (truncf .bf16 (Host.dotGeneral ReferenceIdeal.dot_S4096x4096_S4096x2048_S4096x2048_1_0_0_1_n_n none X W) ReferenceIdeal.Gen.facts.bitsLt_bf16_f32)
    ReferenceIdeal.Gen.facts.bitsLt_bf16_f32

/-- At exact values the roundings change nothing. -/
theorem refOut_entry (X : FVec Ideal ReferenceIdeal.S4096x4096 .bf16) (W : FVec Ideal ReferenceIdeal.S4096x2048 .bf16) (i : ReferenceIdeal.S4096x2048.Idx) :
    refOut X W i = ∑ t : Fin 4096, X (ix2 (i 0) t) * W (ix2 t (i 1)) := by
  have h : i = ix2 (i 0) (i 1) := by funext a; fin_cases a <;> rfl
  refine Eq.trans ?_ (whole_entry X W (i 0) (i 1))
  exact congrArg (Host.dotGeneral ReferenceIdeal.dot_S4096x4096_S4096x2048_S4096x2048_1_0_0_1_n_n none X W : FVec Ideal ReferenceIdeal.S4096x2048 .f32) h

variable (m : (ℓ : Loc nD τ sig) → Buf (Elt Ideal) ℓ) (ρ : Dev nD → PrngReg)

/-- From memories whose blocks are those of `X` and `W`, device `c`'s result is its block of columns of the reference's. -/
theorem outAt_block (X : FVec Ideal ReferenceIdeal.S4096x4096 .bf16) (W : FVec Ideal ReferenceIdeal.S4096x2048 .bf16)
    (hX : ∀ d : Dev nD, m ((d.tc : Thread nD τ).loc main_arg0) = Layout.block ⟨2, ![256, 4096]⟩ ⟨2, ![4096, 4096]⟩ 0 16 d X)
    (hW : ∀ d : Dev nD, m ((d.tc : Thread nD τ).loc main_arg1) = Layout.block ⟨2, ![4096, 128]⟩ ⟨2, ![4096, 2048]⟩ 1 16 d W) (c : Dev nD) :
    outAt m ρ c = Layout.block ⟨2, ![4096, 128]⟩ ⟨2, ![4096, 2048]⟩ 1 16 c (refOut X W) := by
  funext (i : S4096x128.Idx)
  rw [Layout.block_apply, refOut_entry]
  have hi : (i 0).val < 4096 := (i 0).isLt
  have hd : (i 0).val / 256 < 16 := Nat.div_lt_of_lt_mul hi
  have hr : (i 0).val % 256 < 256 := Nat.mod_lt _ (by decide)
  have he : ∀ k : Fin 128, ixO ⟨(i 0).val % 256, hr⟩ k = ix2 ⟨(i 0).val % 256, hr⟩ k := fun k => by funext a; fin_cases a <;> rfl
  show rows (F := Ideal) (xstg m ρ ⟨(i 0).val / 256, hd⟩) (wstg m ρ c) (ixO ⟨(i 0).val % 256, hr⟩ (i 1)) = _
  rw [xstg_eq, wstg_eq, hX, hW]
  refine (congrArg _ (he (i 1))).trans ((rows_entry _ _ ⟨(i 0).val % 256, hr⟩ (i 1)).trans ?_)
  refine Finset.sum_congr rfl fun t _ => ?_
  rw [Layout.block_apply, Layout.block_apply]
  refine congrArg₂ (· * ·) (congrArg X ?_) (congrArg W ?_)
  · funext a
    fin_cases a
    · refine Fin.ext ?_
      show (i 0).val / 256 * 256 + (i 0).val % 256 = (i 0).val
      omega
    · rfl
  · funext a
    fin_cases a
    · rfl
    · rfl

end Cert.RingProof

end
-- ==== Proof.lean ====
/-
# The certificate

The five claims about the kernel, its ideal reading and the reference, put together: the kernel's run and what it leaves
are in `Proof/Launch`, its result against the reference in `Proof/Result`.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Result
public import Idealize.ShloMosaic.Lib.Quiescent
public import Idealize.ShloMosaic.Adequacy
public import Idealize.ShloMosaic.Init

@[expose] public section

noncomputable section

namespace Cert.Proof

open Idealize.ShloMosaic Idealize.SL.Sem
open Cert.RingProof (run_main finalA_x finalA_w finalA_o outAt_block refOut)

/-- The kernel's ideal reading runs, leaves its arguments as they were and every semaphore at zero. -/
theorem frame_ideal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- So does the kernel at bit patterns: the two programs are the same, and the run is proved for any float values. -/
theorem frame_kernel : Cert.quiescent_Kernel := by
  intro m ρ _
  rw [RingProof.same_defs]
  exact (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

/-- The reference runs, leaves its arguments as they were, and has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device's result is its block of columns of the reference's. -/
theorem equation : Cert.algebraic_KernelIdeal_ReferenceIdeal := fun m ρ m' ρ' _ hm =>
  ⟨refOut _ _,
    (θ_run Cert.KernelIdeal.defs _ _).mono
      (fun _ h c => ⟨((h.1 c (2 : Fin 3)).trans (finalA_o m ρ c)).trans (outAt_block m ρ _ _ (fun d => (hm d).1) (fun d => (hm d).2) c),
        (h.1 c (0 : Fin 3)).trans (finalA_x m ρ c), (h.1 c (1 : Fin 3)).trans (finalA_w m ρ c)⟩)
      (run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, equation⟩

end Cert.Proof

end
